-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S2x512x64x64 : Shape := ⟨4, ![2, 512, 64, 64]⟩
abbrev S512x768 : Shape := ⟨2, ![512, 768]⟩
abbrev S2x512x8x64 : Shape := ⟨4, ![2, 512, 8, 64]⟩
abbrev S512x512 : Shape := ⟨2, ![512, 512]⟩
abbrev S8x512x768 : Shape := ⟨3, ![8, 512, 768]⟩
abbrev S7 : Shape := ⟨1, ![7]⟩
abbrev S_ : Shape := ⟨0, ![]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S1x512x1x64 : Shape := ⟨4, ![1, 512, 1, 64]⟩
abbrev S512x64 : Shape := ⟨2, ![512, 64]⟩
abbrev S256 : Shape := ⟨1, ![256]⟩
abbrev S256x1 : Shape := ⟨2, ![256, 1]⟩
abbrev S1x512x768 : Shape := ⟨3, ![1, 512, 768]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S2x256x768, .f32⟩
  | .local _ .vmem, ⟨4, _⟩ => ⟨S2x512x8x64, .f32⟩
  | .local _ .vmem, ⟨5, _⟩ => ⟨S2x512x8x64, .f32⟩
  | .local _ .vmem, ⟨6, _⟩ => ⟨S512x512, .f32⟩
  | .local _ .vmem, ⟨7, _⟩ => ⟨S512x768, .f32⟩
  | .local _ .vmem, ⟨8, _⟩ => ⟨S8x512x768, .f32⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_i32_14 : BitVec 32 := 0#32
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_13 : BitVec 32 := 8#32
  let v25 : BitVec 32 := Scalar.muli v2 c8_i32_13
  let c0_i32_16 : BitVec 32 := 0#32
  ![0, 0, v25.toNat, 0]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v29 : BitVec 32 := Scalar.muli v13 c1_i32_21
  let v30 : BitVec 32 := Scalar.addi c0_i32_22 v29
  v30.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v31 : BitVec 32 := Scalar.muli v24 c1_i32_24
  let v32 : BitVec 32 := Scalar.addi c0_i32_25 v31
  v32.toNat
def k0_dev3 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_282 : BitVec 32 := 1#32
  let v391 : BitVec 32 := Scalar.muli v24 c1_i32_282
  let v392 : BitVec 32 := Scalar.addi c0_i32_283 v391
  v392.toNat
def k0_dev4 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_318 : BitVec 32 := 1#32
  let v422 : BitVec 32 := Scalar.muli v24 c1_i32_318
  let v423 : BitVec 32 := Scalar.addi c0_i32_319 v422
  v423.toNat
def k0_dev5 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_353 : BitVec 32 := 1#32
  let v453 : BitVec 32 := Scalar.muli v24 c1_i32_353
  let v454 : BitVec 32 := Scalar.addi c0_i32_354 v453
  v454.toNat
def k0_dev6 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_388 : BitVec 32 := 1#32
  let v484 : BitVec 32 := Scalar.muli v24 c1_i32_388
  let v485 : BitVec 32 := Scalar.addi c0_i32_389 v484
  v485.toNat
def k0_dev7 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_423 : BitVec 32 := 1#32
  let v515 : BitVec 32 := Scalar.muli v24 c1_i32_423
  let v516 : BitVec 32 := Scalar.addi c0_i32_424 v515
  v516.toNat
def k0_dev8 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_458 : BitVec 32 := 1#32
  let v546 : BitVec 32 := Scalar.muli v24 c1_i32_458
  let v547 : BitVec 32 := Scalar.addi c0_i32_459 v546
  v547.toNat
def k0_dev9 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_493 : BitVec 32 := 1#32
  let v577 : BitVec 32 := Scalar.muli v24 c1_i32_493
  let v578 : BitVec 32 := Scalar.addi c0_i32_494 v577
  v578.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x768 : Shape := ⟨3, ![2, 256, 768]⟩
abbrev S768x4096 : Shape := ⟨2, ![768, 4096]⟩
abbrev S2x512x64x64 : Shape := ⟨4, ![2, 512, 64, 64]⟩
abbrev S4096x768 : Shape := ⟨2, ![4096, 768]⟩
abbrev S2x256x4096 : Shape := ⟨3, ![2, 256, 4096]⟩
abbrev S2x256x64x64 : Shape := ⟨4, ![2, 256, 64, 64]⟩
abbrev S_ : Shape := ⟨0, ![]⟩
abbrev S2x64x256x1 : Shape := ⟨4, ![2, 64, 256, 1]⟩
abbrev S2x64x256x512 : Shape := ⟨4, ![2, 64, 256, 512]⟩
abbrev S2x64x256 : Shape := ⟨3, ![2, 64, 256]⟩
abbrev S2x256x64x1 : Shape := ⟨4, ![2, 256, 64, 1]⟩
abbrev S2x64x64x256 : Shape := ⟨4, ![2, 64, 64, 256]⟩

abbrev nBuf : Space → Nat
  | .hbm => 42
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x4096, .f32⟩
  | .hbm, ⟨2, _⟩ => ⟨S2x512x64x64, .f32⟩
  | .hbm, ⟨3, _⟩ => ⟨S2x512x64x64, .f32⟩
  | .hbm, ⟨4, _⟩ => ⟨S4096x768, .f32⟩
  | .hbm, ⟨5, _⟩ => ⟨S2x256x4096, .f32⟩
  | .hbm, ⟨6, _⟩ => ⟨S2x256x64x64, .f32⟩
  | .hbm, ⟨7, _⟩ => ⟨S_, .f32⟩
  | .hbm, ⟨8, _⟩ => ⟨S2x256x64x64, .f32⟩
  | .hbm, ⟨9, _⟩ => ⟨S_, .f32⟩
  | .hbm, ⟨10, _⟩ => ⟨S2x64x256x1, .f32⟩
  | .hbm, ⟨11, _⟩ => ⟨S_, .f32⟩
  | .hbm, ⟨12, _⟩ => ⟨S2x64x256x1, .f32⟩
  | .hbm, ⟨13, _⟩ => ⟨S2x64x256x512, .f32⟩
  | .hbm, ⟨14, _⟩ => ⟨S_, .f32⟩
  | .hbm, ⟨15, _⟩ => ⟨S2x64x256x512, .f32⟩
  | .hbm, ⟨16, _⟩ => ⟨S2x64x256x512, .f32⟩
  | .hbm, ⟨17, _⟩ => ⟨S_, .f32⟩
  | .hbm, ⟨18, _⟩ => ⟨S2x64x256, .f32⟩
  | .hbm, ⟨19, _⟩ => ⟨S2x64x256x1, .f32⟩
  | .hbm, ⟨20, _⟩ => ⟨S2x64x256x1, .f32⟩
  | .hbm, ⟨21, _⟩ => ⟨S2x64x256x1, .f32⟩
  | .hbm, ⟨22, _⟩ => ⟨S2x64x256x1, .f32⟩
  | .hbm, ⟨23, _⟩ => ⟨S2x64x256x512, .f32⟩
  | .hbm, ⟨24, _⟩ => ⟨S2x64x256x512, .f32⟩
  | .hbm, ⟨25, _⟩ => ⟨S2x64x256x512, .f32⟩
  | .hbm, ⟨26, _⟩ => ⟨S2x64x256x1, .f32⟩
  | .hbm, ⟨27, _⟩ => ⟨S_, .f32⟩
  | .hbm, ⟨28, _⟩ => ⟨S2x64x256, .f32⟩
  | .hbm, ⟨29, _⟩ => ⟨S2x64x256x1, .f32⟩
  | .hbm, ⟨30, _⟩ => ⟨S2x64x256x1, .f32⟩
  | .hbm, ⟨31, _⟩ => ⟨S2x256x64x1, .f32⟩
  | .hbm, ⟨32, _⟩ => ⟨S2x256x64x64, .f32⟩
  | .hbm, ⟨33, _⟩ => ⟨S2x256x64x64, .f32⟩
  | .hbm, ⟨34, _⟩ => ⟨S2x64x64x256, .f32⟩
  | .hbm, ⟨35, _⟩ => ⟨S2x256x64x64, .f32⟩
  | .hbm, ⟨36, _⟩ => ⟨S2x256x64x64, .f32⟩
  | .hbm, ⟨37, _⟩ => ⟨S2x256x64x1, .f32⟩
  | .hbm, ⟨38, _⟩ => ⟨S2x256x64x64, .f32⟩
  | .hbm, ⟨39, _⟩ => ⟨S2x256x64x64, .f32⟩
  | .hbm, ⟨40, _⟩ => ⟨S2x256x4096, .f32⟩
  | .hbm, ⟨41, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Slots.lean ====
/-
  The ring buffer of the kernel, slot by slot, and the semaphores of the ring.

  The ring buffer holds eight blocks of 512 × 768 numbers. Device `c` keeps in slot `g` the partial product of
  the device `g` places before it on the ring: slot 0 is its own, and step `g` of the ring copies slot `g` of
  device `c` into slot `g + 1` of the next device. So the whole buffer has ONE final content, `ringBuf`, and
  every slot is held at that content from the moment it is filled.
-/
module

public import proofs.«01_k».proof.Proof.Gen.KernelIdeal
public import Idealize.ShloMosaic.Lib.Tactic
public import Idealize.ShloMosaic.Lib.Pipeline.Kit
public import Idealize.ShloMosaic.Lib.Pipeline.Value
public import Idealize.ShloMosaic.Lib.ValueLayout

@[expose] public section

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx

variable {F : FTy → Type} [FloatOps F]

/-! ## The ring of eight devices -/

/-- The next device on the ring. -/
def nxt (c : Dev nD) : Dev nD := ⟨(c.val + 1) % 8, Nat.mod_lt _ (by decide)⟩
/-- The device before. -/
def prv (c : Dev nD) : Dev nD := ⟨(c.val + 7) % 8, Nat.mod_lt _ (by decide)⟩
/-- The device `g` places before. -/
def back (c : Dev nD) (g : ℕ) : Dev nD := ⟨(c.val + 8 - g % 8) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
/-- One place further back, seen from one place further on, is the same device. -/
theorem back_nxt (c : Dev nD) (g : ℕ) (hg : g < 7) : back (nxt c) (g + 1) = back c g := by
  revert c; interval_cases g <;> decide
theorem back_zero (c : Dev nD) : back c 0 = c := by revert c; decide
/-- The ring as a permutation. -/
def ring : Dev nD ≃ Dev nD := ⟨nxt, prv, prv_nxt, nxt_prv⟩

/-- The devices the program addresses: the first signal goes to the device before, -/
theorem dev1_eq (c : Dev nD) : (⟨k0_dev1 c, k0_dev1_lt c⟩ : Dev nD) = prv c := by revert c; decide +kernel
/-- the second to the next one, -/
theorem dev2_eq (c : Dev nD) : (⟨k0_dev2 c, k0_dev2_lt c⟩ : Dev nD) = nxt c := by revert c; decide +kernel
/-- and every copy of the ring to the next one. -/
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = nxt c := by revert c; decide +kernel

/-! ## The slots -/

/-- The ring buffer. -/
abbrev ringM : Memref sig .tc .vmem S8x512x768 .f32 := Memref.whole cc0_scratch4

theorem inb_slot (g : ℕ) (hg : g < 8) : ∀ a, (![g, 0, 0] : Fin 3 → ℕ) a + S1x512x768.size a ≤ S8x512x768.size a := by
  interval_cases g <;> decide
theorem inb_sem (g : ℕ) (hg : g < 7) : ∀ a, (![g] : Fin 1 → ℕ) a + S1.size a ≤ S7.size a := by
  interval_cases g <;> decide

/-- The rows of slot `g` in the buffer. -/
abbrev slotR (g : ℕ) (hg : g < 8) : Rect S8x512x768 := Rect.unit (s := S8x512x768) ![g, 0, 0] S1x512x768.size (inb_slot g hg)
/-- Slot `g`, as the copies name it: a block of 512 × 768. -/
abbrev slot (g : ℕ) (hg : g < 8) : Memref sig .tc .vmem S512x768 .f32 :=
  (ringM.slice (slotR g hg) (fun _ => rfl)).squeeze S512x768 squeezes_S1x512x768_S512x768

/-- The send semaphore of step `g`, -/
abbrev sendS (g : ℕ) (hg : g < 7) : DmaSem sig :=
  ((cc0_scratch5.slice (Rect.unit (s := S7) ![g] S1.size (inb_sem g hg))).squeeze S_ squeezes_S1_S_).sem
/-- and the receive semaphore. -/
abbrev recvS (g : ℕ) (hg : g < 7) : DmaSem sig :=
  ((cc0_scratch6.slice (Rect.unit (s := S7) ![g] S1.size (inb_sem g hg))).squeeze S_ squeezes_S1_S_).sem
/-- The semaphore that both of the kernel's local copies credit. -/
abbrev kvS : DmaSem sig := cc0_scratch7.sem
/-- The barrier semaphore. -/
abbrev barS : Sem sig := (SemArray.scalar (sig.barrier 0 rfl) : Sems sig S_).sem

/-- The only index of a single semaphore, squeezed to a scalar. -/
theorem sem_at (g : ℕ) (hg : g < 7) :
    (S7.rowMajor ((Rect.unit (s := S7) ![g] S1.size (inb_sem g hg)).emb
      (Shape.reshapeEquiv (s := S1) (s' := S_) squeezes_S1_S_.numel_eq (fun i => i.elim0)))).val = g := by
  rw [Shape.rowMajor_val_one, Rect.emb_apply]
  have h : ((Shape.reshapeEquiv (s := S1) (s' := S_) squeezes_S1_S_.numel_eq (fun i => i.elim0)) (0 : Fin 1)).val < 1 :=
    ((Shape.reshapeEquiv (s := S1) (s' := S_) squeezes_S1_S_.numel_eq (fun i => i.elim0)) (0 : Fin 1)).isLt
  show g + 1 * _ = g
  omega
theorem sendS_val (g : ℕ) (hg : g < 7) : (sendS g hg).val = 4 + g := congrArg (4 + ·) (sem_at g hg)
theorem recvS_val (g : ℕ) (hg : g < 7) : (recvS g hg).val = 11 + g := congrArg (11 + ·) (sem_at g hg)
theorem kvS_val : (kvS).val = 18 := rfl

/-- The element of the buffer under an index of slot `g`. -/
theorem slot_emb (g : ℕ) (hg : g < 8) (x : S512x768.Idx) :
    (slot g hg).view.emb x = ix3 (n0 := 8) (n1 := 512) (n2 := 768) ⟨g, hg⟩ (x 0) (x 1) := by
  obtain ⟨a, b, rfl⟩ : ∃ a b, x = ix2 (n0 := 512) (n1 := 768) a b := ⟨_, _, eq_ix2 x⟩
  show (slotR g hg).emb (Shape.reshapeEquiv (s := S1x512x768) (s' := S512x768) squeezes_S1x512x768_S512x768.numel_eq (ix2 a b)) = _
  rw [reshapeEquiv_ix2_1ab]
  funext d
  refine Fin.ext ?_
  rw [Rect.emb_apply]
  match d with
  | ⟨0, _⟩ => rfl
  | ⟨1, _⟩ => show 0 + 1 * a.val = a.val; omega
  | ⟨2, _⟩ => show 0 + 1 * b.val = b.val; omega

/-- An element lies in slot `g` iff its first coordinate is `g`. -/
theorem mem_slot (g : ℕ) (hg : g < 8) (i : S8x512x768.Idx) : i ∈ (slot g hg).view.set ↔ (i 0).val = g := by
  constructor
  · intro h
    obtain ⟨x, -, rfl⟩ := Finset.mem_map.1 h
    rw [slot_emb]
  · intro h
    refine Finset.mem_map.2 ⟨ix2 (n0 := 512) (n1 := 768) (i 1) (i 2), Finset.mem_univ _, ?_⟩
    rw [slot_emb]
    funext d
    match d with
    | ⟨0, _⟩ => exact Fin.ext h.symm
    | ⟨1, _⟩ => rfl
    | ⟨2, _⟩ => rfl

/-! ## What the slots hold -/

/-- Device `c`'s ring buffer at the end: slot `g` is the partial product of the device `g` places before. -/
def ringBuf (P : Dev nD → FVec F S512x768 .f32) (c : Dev nD) : FVec F S8x512x768 .f32 :=
  fun i => P (back c (i 0).val) (ix2 (n0 := 512) (n1 := 768) (i 1) (i 2))

/-- Slot `g` read off the final contents. -/
theorem read_slot (P : Dev nD → FVec F S512x768 .f32) (c : Dev nD) (g : ℕ) (hg : g < 8) :
    (slot g hg).view.read (Elt F) (ringBuf P c) = P (back c g) := by
  funext x
  show ringBuf P c ((slot g hg).view.emb x) = _
  rw [slot_emb]
  exact congrArg (P (back c g)) (eq_ix2 (n0 := 512) (n1 := 768) x).symm

/-- A block written over slot `g` is, on the slot, the final contents, where the block is the partial product
    the slot is to hold. -/
theorem write_slot (P : Dev nD → FVec F S512x768 .f32) (c : Dev nD) (g : ℕ) (hg : g < 8)
    (fd : FVec F S8x512x768 .f32) (i : S8x512x768.Idx) (hi : i ∈ (slot g hg).view.set) :
    (slot g hg).view.write (Elt F) fd (P (back c g)) Finset.univ i = ringBuf P c i := by
  obtain ⟨x, -, rfl⟩ := Finset.mem_map.1 hi
  refine (View.write_emb_of_mem (Val := Elt F) (v := (slot g hg).view) fd _ (Finset.mem_univ x)).trans ?_
  rw [slot_emb]
  exact congrArg (P (back c g)) (eq_ix2 (n0 := 512) (n1 := 768) x)

/-- What lands on the next device: slot `g` of this one, in slot `g + 1`. -/
theorem land_slot (P : Dev nD → FVec F S512x768 .f32) (c : Dev nD) (g : ℕ) (hg : g < 7)
    (fd : FVec F S8x512x768 .f32) (i : S8x512x768.Idx) (hi : i ∈ (slot (g + 1) (Nat.succ_lt_succ hg)).view.set) :
    (slot (g + 1) (Nat.succ_lt_succ hg)).view.write (Elt F) fd ((slot g (Nat.lt_succ_of_lt hg)).view.read (Elt F) (ringBuf P c)) Finset.univ i
      = ringBuf P (nxt c) i := by
  rw [read_slot, ← back_nxt c g hg]
  exact write_slot P (nxt c) (g + 1) (Nat.succ_lt_succ hg) fd i hi

end Cert.RingAttn

end
-- ==== Proof.Proto.lean ====
/-
  The protocol of the ring: who signals and copies what to whom, how much each wait consumes, in which order.

  * The barrier semaphore of device `c` gets one unit from each neighbour; `c` waits for two. The next device's
    unit hands `c` that device's slots 1 … 7 (of any contents), the ones `c`'s copies will fill; the unit of the
    device before hands over nothing.
  * Step `g` (`g = 0 … 6`) copies slot `g` of `c` into slot `g + 1` of the next device. It credits `c`'s send
    semaphore `g`, which returns slot `g`, and the next device's receive semaphore `g`, which hands that device
    its slot `g + 1`, filled. Each of these semaphores is credited once and waited for once.
  * Order: a device waits for its barrier while it owes the seven copies; it waits for receive `g` while it owes
    the copies after step `g`. So the barrier has level 1, receive `g` level `2 + g`, everything else level 0.
-/
module

public import proofs.«01_k».proof.Proof.Slots
public import Idealize.ShloMosaic.Lib.Rounds
public import Idealize.ShloMosaic.Lib.Transfers

@[expose] public section

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The ring's ghost state, -/
abbrev UB : Type := URounds (GSem nD τ sig) Bool
/-- beside the pipeline's and the local copies'. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ 𝕄) := by unfold ER; infer_instance

/-! ## The semaphore cells -/

abbrev barCell (c : Dev nD) : GSem nD τ sig := ((c : Thread nD τ), .reg barS)
abbrev sendCell (c : Dev nD) (g : ℕ) (hg : g < 7) : GSem nD τ sig := ((c : Thread nD τ), .dma (sendS g hg))
abbrev recvCell (c : Dev nD) (g : ℕ) (hg : g < 7) : GSem nD τ sig := ((c : Thread nD τ), .dma (recvS g hg))

/-- What one copy of the ring credits. -/
abbrev N : ℕ := (slot 0 (by decide)).view.dmaCredit
theorem N_pos : 0 < N := View.dmaCredit_pos _ (by decide)

/-! ## The schedule -/

/-- Slot `k` of device `c` at the buffer contents `f`. -/
abbrev slotPts (c : Dev nD) (k : ℕ) (hk : k < 8) (f : FVec F S8x512x768 .f32) : sProp 𝕄 :=
  (slot k hk).view.loc (c : Thread nD τ) ↦[(slot k hk).view.set]{fullShare} f
omit [FloatOps F] in
instance slotPts_storable (c : Dev nD) (k : ℕ) (hk : k < 8) (f : FVec F S8x512x768 .f32) :
    BI.Storable (upEmb : UEmb _ 𝕄) (slotPts c k hk f) := by unfold slotPts; infer_instance

variable (P : Dev nD → FVec F S512x768 .f32)

/-- Slot `k` of device `c`, filled (no slot beyond the seventh). -/
def filled (c : Dev nD) (k : ℕ) : sProp 𝕄 := if hk : k < 8 then slotPts c k hk (ringBuf P c) else iprop(emp)
/-- The slots the next device hands over with its barrier unit. -/
def barPay (c : Dev nD) : sProp 𝕄 :=
  iprop((∃ f, slotPts (F := F) (nxt c) 1 (by decide) f) ∗ (∃ f, slotPts (F := F) (nxt c) 2 (by decide) f)
    ∗ (∃ f, slotPts (F := F) (nxt c) 3 (by decide) f) ∗ (∃ f, slotPts (F := F) (nxt c) 4 (by decide) f)
    ∗ (∃ f, slotPts (F := F) (nxt c) 5 (by decide) f) ∗ (∃ f, slotPts (F := F) (nxt c) 6 (by decide) f)
    ∗ (∃ f, slotPts (F := F) (nxt c) 7 (by decide) f))
/-- What semaphore `s` of device `c` hands its waiter, by duty. -/
def pay (c : Dev nD) (d : Bool) : SemLoc sig → sProp 𝕄
  | .reg s => if s = barS ∧ d = true then barPay c else iprop(emp)
  | .dma q => if q.val < 11 then filled P c (q.val - 4) else filled P c (q.val - 10)

abbrev IsBar (g : GSem nD τ sig) : Prop := g.1.2 = .tc ∧ g.2 = .reg barS
/-- A ring semaphore: numbers 4 to 17 of the pool. -/
abbrev IsXfer (g : GSem nD τ sig) : Prop := g.1.2 = .tc ∧ ∃ q : DmaSem sig, g.2 = .dma q ∧ 4 ≤ q.val ∧ q.val < 18

open Classical in
/-- One round: a barrier cell has two duties of one unit, a send or receive cell one duty of a block's credit. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := pay P g.1.1 d g.2
  amount_pos g _ _ _ := by
    by_cases h : g.2 = .reg barS
    · rw [if_pos h]; exact Nat.one_pos
    · rw [if_neg h]; exact N_pos

omit [FloatOps F] in
instance filled_storable (c : Dev nD) (k : ℕ) : BI.Storable (upEmb : UEmb _ 𝕄) (filled P c k) := by
  unfold filled; split <;> infer_instance
omit [FloatOps F] in
instance barPay_storable (c : Dev nD) : BI.Storable (upEmb : UEmb _ 𝕄) (barPay (F := F) c) := by
  unfold barPay; infer_instance
omit [FloatOps F] in
instance ringRd_payload_storable (g : GSem nD τ sig) (r : ℕ) (d : Bool) :
    BI.Storable (upEmb : UEmb _ 𝕄) ((ringRd P).payload g r d) := by
  show BI.Storable upEmb (pay P g.1.1 d g.2)
  cases g.2 <;> unfold pay <;> dsimp only <;> split <;> infer_instance

section Sched
variable (c : Dev nD) (g : ℕ) (hg : g < 7)

theorem isXfer_send : IsXfer (sendCell c g hg) := ⟨rfl, _, rfl, by rw [sendS_val]; omega, by rw [sendS_val]; omega⟩
theorem isXfer_recv : IsXfer (recvCell c g hg) := ⟨rfl, _, rfl, by rw [recvS_val]; omega, by rw [recvS_val]; omega⟩

omit [FloatOps F] in
theorem duties_bar : (ringRd P).duties (barCell c) 0 = Finset.univ := by dsimp only [ringRd]; exact if_pos ⟨rfl, rfl, rfl⟩
omit [FloatOps F] in
theorem duties_send : (ringRd P).duties (sendCell c g hg) 0 = {false} := by
  dsimp only [ringRd]; rw [if_neg (fun h => by cases h.2.2)]; exact if_pos ⟨rfl, isXfer_send c g hg⟩
omit [FloatOps F] in
theorem duties_recv : (ringRd P).duties (recvCell c g hg) 0 = {false} := by
  dsimp only [ringRd]; rw [if_neg (fun h => by cases h.2.2)]; exact if_pos ⟨rfl, isXfer_recv c g hg⟩
omit [FloatOps F] in
theorem duties_later (x : GSem nD τ sig) : ∀ r, 1 ≤ r → (ringRd P).duties x r = ∅ :=
  fun r hr => by dsimp only [ringRd]; rw [if_neg fun h => by omega, if_neg fun h => by omega]

omit [FloatOps F] in
theorem amount_bar (d : Bool) : (ringRd P).amount (barCell c) 0 d = 1 := by dsimp only [ringRd]; exact if_pos rfl
omit [FloatOps F] in
theorem amount_dma (q : DmaSem sig) (d : Bool) : (ringRd P).amount ((c : Thread nD τ), .dma q) 0 d = N := by
  dsimp only [ringRd]; exact if_neg (fun h => by cases h)

omit [FloatOps F] in
theorem expect_bar : (ringRd P).expect (barCell c) 0 = 2 := by
  unfold Schedule.expect Schedule.amountOf
  rw [duties_bar, Finset.sum_congr rfl fun d _ => amount_bar P c d, Finset.sum_const, Finset.card_univ, Fintype.card_bool, smul_eq_mul]
omit [FloatOps F] in
theorem expect_send : (ringRd P).expect (sendCell c g hg) 0 = N := by
  unfold Schedule.expect Schedule.amountOf; rw [duties_send, Finset.sum_singleton, amount_dma]
omit [FloatOps F] in
theorem expect_recv : (ringRd P).expect (recvCell c g hg) 0 = N := by
  unfold Schedule.expect Schedule.amountOf; rw [duties_recv, Finset.sum_singleton, amount_dma]

omit [FloatOps F] in
theorem payload_bar_true : (ringRd P).payload (barCell c) 0 true = barPay c := by
  dsimp only [ringRd, pay]; exact if_pos ⟨rfl, rfl⟩
omit [FloatOps F] in
theorem payload_bar_false : (ringRd P).payload (barCell c) 0 false = iprop(emp) := by
  dsimp only [ringRd, pay]; exact if_neg (fun h => by cases h.2)
omit [FloatOps F] in
theorem payload_send (d : Bool) : (ringRd P).payload (sendCell c g hg) 0 d = slotPts c g (by omega) (ringBuf P c) := by
  dsimp only [ringRd, pay]
  rw [if_pos (by rw [sendS_val]; omega), sendS_val, Nat.add_sub_cancel_left, filled, dif_pos]
omit [FloatOps F] in
theorem payload_recv (d : Bool) : (ringRd P).payload (recvCell c g hg) 0 d = slotPts c (g + 1) (by omega) (ringBuf P c) := by
  dsimp only [ringRd, pay]
  rw [if_neg (by rw [recvS_val]; omega), recvS_val, show 11 + g - 10 = g + 1 by omega, filled, dif_pos]

omit [FloatOps F] in
/-- A wait for the whole round of the barrier brings the next device's slots; -/
theorem rest_bar : bigSep ((ringRd P).duties (barCell c) 0 \ ∅) (fun d => (ringRd P).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
/-- of a send, the slot copied; -/
theorem rest_send : bigSep ((ringRd P).duties (sendCell c g hg) 0 \ ∅) (fun d => (ringRd P).payload (sendCell c g hg) 0 d)
    = slotPts c g (by omega) (ringBuf P c) := by
  rw [Finset.sdiff_empty, duties_send, bigSep_singleton, payload_send]
omit [FloatOps F] in
/-- of a receive, the slot filled. -/
theorem rest_recv : bigSep ((ringRd P).duties (recvCell c g hg) 0 \ ∅) (fun d => (ringRd P).payload (recvCell c g hg) 0 d)
    = slotPts c (g + 1) (by omega) (ringBuf P c) := by
  rw [Finset.sdiff_empty, duties_recv, bigSep_singleton, payload_recv]

end Sched

/-! ## What a device owes, and the levels -/

/-- The credits of the last `n` copies of the ring, owed to the next device's receive semaphores. -/
def R (c : Dev nD) : ℕ → CellTallies nD τ sig Unit
  | 0 => 0
  | n + 1 => R c n + tallyAt (recvCell (nxt c) (6 - n) (by omega)) () N
/-- At launch: the seven copies and a unit to each neighbour's barrier. -/
def O₁ (c : Dev nD) : CellTallies nD τ sig Unit := R c 7 + tallyAt (barCell (nxt c)) () 1
def O₀ (c : Dev nD) : CellTallies nD τ sig Unit := O₁ c + tallyAt (barCell (prv c)) () 1

/-- Step `g` pays its own copy. -/
theorem R_step (c : Dev nD) (g : ℕ) (hg : g < 7) : R c (7 - g) = R c (6 - g) + tallyAt (recvCell (nxt c) g hg) () N := by
  interval_cases g <;> rfl

def L (g : GSem nD τ sig) : Finset Unit := if g.1.2 = .tc then {()} else ∅
/-- The level of a semaphore. -/
def lvs : SemLoc sig → ℕ
  | .reg s => if s = barS then 1 else 0
  | .dma q => if 11 ≤ q.val ∧ q.val < 18 then q.val - 9 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lvs_recv (g : ℕ) (hg : g < 7) : lvs (.dma (recvS g hg)) = 2 + g := by
  show (if 11 ≤ (recvS g hg).val ∧ (recvS g hg).val < 18 then (recvS g hg).val - 9 else 0) = 2 + g
  rw [recvS_val, if_pos (by omega)]; omega
theorem lvs_bar : lvs (.reg barS) = 1 := by
  show (if barS = barS then 1 else 0) = 1
  rw [if_pos rfl]
theorem lvs_send (g : ℕ) (hg : g < 7) : lvs (.dma (sendS g hg)) = 0 := by
  show (if 11 ≤ (sendS g hg).val ∧ (sendS g hg).val < 18 then (sendS g hg).val - 9 else 0) = 0
  rw [sendS_val, if_neg (by omega)]
theorem lvs_kv : lvs (.dma kvS) = 0 := rfl

/-- A copy still owed is one of the last `n`: its receive semaphore's level is at least `9 - n`. -/
theorem R_pos {c : Dev nD} {n : ℕ} (hn : n ≤ 7) {x : GSem nD τ sig} {u : Unit} (h : 0 < R c n x u) : x.1.2 = .tc ∧ 9 - n ≤ lvs x.2 := by
  induction n with
  | zero => exact absurd h (Nat.lt_irrefl 0)
  | succ n ih =>
    unfold R at h
    rw [Pi.add_apply, Finsupp.add_apply, tallyAt_apply] at h
    by_cases hx : x = recvCell (nxt c) (6 - n) (by omega) ∧ u = ()
    · rw [hx.1]; refine ⟨rfl, ?_⟩
      show _ ≤ lvs (.dma (recvS (6 - n) _))
      rw [lvs_recv]; omega
    · rw [if_neg hx] at h
      obtain ⟨h1, h2⟩ := ih (by omega) h
      exact ⟨h1, by omega⟩

theorem O₀_pos {c : Dev nD} {x : GSem nD τ sig} {u : Unit} (h : 0 < O₀ c x u) : x.1.2 = .tc ∧ 1 ≤ lvs x.2 := by
  unfold O₀ O₁ at h
  generalize hR : R c 7 = r at h
  rw [Pi.add_apply, Finsupp.add_apply, Pi.add_apply, Finsupp.add_apply, tallyAt_apply, tallyAt_apply] at h
  by_cases h1 : x = barCell (nxt c) ∧ u = ()
  · rw [h1.1]; refine ⟨rfl, ?_⟩; show 1 ≤ lvs (.reg barS); rw [lvs_bar]
  by_cases h2 : x = barCell (prv c) ∧ u = ()
  · rw [h2.1]; refine ⟨rfl, ?_⟩; show 1 ≤ lvs (.reg barS); rw [lvs_bar]
  rw [if_neg h1, if_neg h2] at h
  have h' : 0 < R c 7 x u := by rw [hR]; exact h
  have h3 := R_pos (n := 7) (le_refl 7) h'
  exact ⟨h3.1, le_trans (by decide) h3.2⟩

omit [FloatOps F] in
/-- A wait below everything owed is allowed. -/
theorem mayWait_of (c : Dev nD) (s : SemLoc sig) (O : CellTallies nD τ sig Unit)
    (hO : ∀ (x : GSem nD τ sig) (u : Unit), 0 < O x u → x.1.2 = .tc ∧ lvs s < lvs x.2) :
    (levAts L lv : sProp 𝕄) ⊢ MayWait (c : Thread nD τ) s () O :=
  MayOwe.of_cut (L := L) (lev := lv) (lvs s) (fun p hp => by rw [Finset.mem_singleton.mp hp, L_tc]; exact Finset.mem_singleton_self _)
    (fun x u hx => by unfold L; rw [if_pos (hO x u hx).1]; exact Finset.mem_singleton_self _)
    (fun p hp => by rw [Finset.mem_singleton.mp hp]; exact le_refl _)
    (fun x u hx => (hO x u hx).2)

omit [FloatOps F] in
/-- Owing the last `n` copies, a device may wait on any semaphore of a level below `9 - n`. -/
theorem mayWait_R (c : Dev nD) (s : SemLoc sig) (n : ℕ) (hn : n ≤ 7) (hs : lvs s < 9 - n) :
    (levAts L lv : sProp 𝕄) ⊢ MayWait (c : Thread nD τ) s () (R c n) :=
  mayWait_of c s _ fun _ _ h => ⟨(R_pos hn h).1, lt_of_lt_of_le hs (R_pos hn h).2⟩

end Cert.RingAttn

end
-- ==== Proof.Step.lean ====
/-
  The two moves of the kernel that involve another device: the handshake with both neighbours, and one step of the ring.

  Each is stated once, as a rule for a stretch of the program: the step for any `g`, so that the body uses it seven times.
-/
module

public import proofs.«01_k».proof.Proof.Proto

@[expose] public section

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → FVec F S512x768 .f32)

/-- The kernel has no loop whose bound needs a measure. -/
abbrev 𝒱₀ : Variants := Variants.none

/-- Buffer `b` of device `c`, whole, at contents `f`. -/
abbrev bufPts (c : Dev nD) (b : Ref sig .tc) (f : Buf (Elt F) ((c : Thread nD τ).loc b)) : sProp 𝕄 :=
  ((Memref.whole b).view.loc (c : Thread nD τ)) ↦[(Memref.whole b).view.set]{fullShare} f

/-- The three steps of the handshake: signal the left neighbour, handing it slots 1 … 7; signal the right neighbour; wait for both
    neighbours' signals, and take slots 1 … 7 of the right neighbour's buffer. -/
theorem wp_shake (c n p : Dev nD) (hp : p = prv c) (hn : n = nxt c) (κ₀ κ₁ κ₂ : ℕ) (W : Waits sig Unit) {α : Type}
    (k : PUnit → Prog (TpuEff nD τ sig (Elt F) Λ₀ .tc) α) (Q : α → sProp 𝕄) :
    iprop(cellInv ER (ringRd P) κ₀ (barCell c) ∗ cellInv ER (ringRd P) κ₁ (barCell (nxt c)) ∗ cellInv ER (ringRd P) κ₂ (barCell (prv c))
      ∗ levAts L lv ∗ reached ER (barCell (nxt c)) 0 ∗ reached ER (barCell (prv c)) 0
      ∗ atPos ER (barCell c) 0 ∅ 0 ∗ dutyTok ER (barCell (nxt c)) 0 false ∗ dutyTok ER (barCell (prv c)) 0 true
      ∗ cred (tallyAt (barCell c) () 2) ∗ owes (c : Thread nD τ) (O₀ c) W ∗ barPay (F := F) (prv c))
    ⊢ iprop(((∃ W', owes (c : Thread nD τ) (R c 7) W') ∗ atPos ER (barCell c) 1 ∅ 0 ∗ barPay (F := F) c
        -∗ wp frame (wpE (defs₀ (F := F)) 𝒱₀ (c : Thread nD τ) none) Set.univ (k ⟨⟩) Q)
      -∗ wp frame (wpE (defs₀ (F := F)) 𝒱₀ (c : Thread nD τ) none) Set.univ
        (.op (.semSignal (Dev.tc p : Thread nD τ) barS ((1#32).toInt)) fun _ => .op (.semSignal (Dev.tc n : Thread nD τ) barS ((1#32).toInt)) fun _ =>
          .op (.semWait barS ((2#32).toInt)) k) Q) := by
  subst hn hp
  iintro ⟨#HIb, #HIn, #HIp, #Hlev, #Hrn, #Hrp, Hat, HtN, HtP, Hcr, HO, Hs⟩ Hk
  unfold O₀
  iapply (Rounds.wp_signal 𝒱₀ ER (ringRd P) (c : Thread nD τ) none (dst := (prv c : Thread nD τ)) (κ := κ₂)
      (d := true) (by rw [duties_bar]; exact Finset.mem_univ _) ((amount_bar P (prv c) true).trans (by decide)) () (O₁ c) rfl)
    $$ [HO HtP Hs]
  · isplitr; · iexact HIp
    isplitl [HO]; · iexact HO
    isplitl [HtP]; · iexact HtP
    isplitl [Hs]; · rw [payload_bar_true]; iexact Hs
    iexact Hrp
  iintro HO
  unfold O₁
  iapply (Rounds.wp_signal 𝒱₀ ER (ringRd P) (c : Thread nD τ) none (dst := (nxt c : Thread nD τ)) (κ := κ₁)
      (d := false) (by rw [duties_bar]; exact Finset.mem_univ _) ((amount_bar P (nxt c) false).trans (by decide)) () (R c 7) rfl)
    $$ [HO HtN]
  · isplitr; · iexact HIn
    isplitl [HO]; · iexact HO
    isplitl [HtN]; · iexact HtN
    isplitr; · rw [payload_bar_false]; iempintro
    iexact Hrn
  iintro HO
  iapply (Rounds.wp_wait_rest_token 𝒱₀ ER (ringRd P) (c : Thread nD τ) none (κ := κ₀)
      (wpE_semWait_eq 𝒱₀ (c : Thread nD τ) none Set.univ) (Set.mem_univ _) () (O := R c 7) (W := W) (R := 0) (m := 0) (T := ∅)
      (by rw [expect_bar]; decide)) $$ [Hcr HO Hat]
  · isplitr; · iexact HIb
    isplitl [Hcr]; · iexact Hcr
    isplitl [HO]; · iexact HO
    isplitr; · iapply (mayWait_R (F := F) c (.reg barS) 7 (le_refl 7) (by rw [lvs_bar]; decide)); iexact Hlev
    iexact Hat
  iintro ⟨HO, Hat, -, Hpay⟩
  ihave Hp := (Entails.of_eq (rest_bar P c)) $$ Hpay
  icases Hp with ⟨-, Hp⟩
  iapply Hk
  isplitl [HO]; · iexists _; iexact HO
  isplitl [Hat]; · iexact Hat
  iexact Hp

/-! ## One step of the ring -/

/-- The running sum of device `c` after `g` steps: the partial products of `c` and of the `g` devices before it. -/
def accV (c : Dev nD) : ℕ → FVec F S512x768 .f32
  | 0 => P c
  | g + 1 => addf (accV c g) (P (back c (g + 1)))

/-- The accumulator's rectangle, all of it. -/
abbrev accR : Rect S512x768 := Rect.unit (s := S512x768) ![0, 0] S512x768.size inb_S512x768_S512x768_0_0

/-- Slot `g` as the loads read it, with a leading axis of 1. -/
theorem load_slot (c : Dev nD) (g : ℕ) (hg : g < 8) :
    shapeCast S512x768 (ringM.view.readAt (Elt F) (slotR g hg).toLoadRect (ringBuf P c)) shapeCasts_S1x512x768_S512x768 = P (back c g) := by
  rw [← read_slot P c g hg]; rfl

/-- A slot's credit does not depend on the slot. -/
theorem slot_amount (g : ℕ) (hg : g < 8) (q : DmaSem sig) : (slot g hg).view.amount (.dma q) = N := rfl
theorem slot_credit (g : ℕ) (hg : g < 8) : (slot g hg).view.dmaCredit = N := rfl

/-- A load of slot `g` reads elements of slot `g`. -/
theorem load_slot_sub (g : ℕ) (hg : g < 8) : ringM.view.setOn (slotR g hg).toLoadRect.set ⊆ (slot g hg).view.set := by
  intro i hi
  obtain ⟨x, hx, rfl⟩ := Finset.mem_map.1 hi
  obtain ⟨y, rfl⟩ := (slotR g hg).exists_idx_of_mem hx
  rw [mem_slot]
  show ((slotR g hg).emb y 0).val = g
  rw [Rect.emb_apply]
  have h : (y 0).val < 1 := (y 0).isLt
  show g + 1 * (y 0).val = g
  omega

/-- Any elements of the accumulator lie in it. -/
theorem acc_sub (M : Finset S512x768.Idx) : M ⊆ (Memref.whole cc0_scratch3).view.set :=
  (Finset.subset_univ M).trans (View.set_whole cc0_scratch3).ge
/-- The accumulator loaded and stored whole. -/
theorem acc_read (a : FVec F S512x768 .f32) : (Memref.whole cc0_scratch3).view.readAt (Elt F) accR.toLoadRect a = a :=
  Memref.readAt_unit_zero (Elt F) cc0_scratch3 (off := ![0, 0]) (by decide) inb_S512x768_S512x768_0_0 a
theorem acc_write (a w : FVec F S512x768 .f32) : ((Memref.whole cc0_scratch3).access accR).write (Elt F) a w Finset.univ = w :=
  Memref.write_access_unit_zero_univ (Elt F) cc0_scratch3 (off := ![0, 0]) (by decide) inb_S512x768_S512x768_0_0 a w

/-- The ghost state of step `g`: the two cells of `c` and the next device's receive cell (of names `κs`, `κr`, `κn`), that they are at
    round 0, and the tokens of the two duties the copy pays. -/
def stepGhost (c : Dev nD) (g : ℕ) (hg : g < 7) (κs κr κn : ℕ) : sProp 𝕄 :=
  iprop((cellInv ER (ringRd P) κs (sendCell c g hg) ∗ cellInv ER (ringRd P) κr (recvCell c g hg) ∗ cellInv ER (ringRd P) κn (recvCell (nxt c) g hg)
      ∗ reached ER (sendCell c g hg) 0 ∗ reached ER (recvCell (nxt c) g hg) 0)
    ∗ (atPos ER (sendCell c g hg) 0 ∅ 0 ∗ atPos ER (recvCell c g hg) 0 ∅ 0)
    ∗ (dutyTok ER (sendCell c g hg) 0 false ∗ dutyTok ER (recvCell (nxt c) g hg) 0 false))

set_option maxHeartbeats 2000000 in
/-- Step `g`: copy slot `g` to slot `g + 1` of the next device, wait for the copy sent and the copy received, and add slot `g + 1`
    to the running sum. Both semaphores' counters are zero again. -/
theorem wp_step (c n : Dev nD) (g : ℕ) (hg : g < 7) (hn : n = nxt c) (κs κr κn : ℕ) {α : Type}
    (k : PUnit → Prog (TpuEff nD τ sig (Elt F) Λ₀ .tc) α) (Q : α → sProp 𝕄)
    (pay : FVec F S512x768 .f32 → FVec F S1x512x768 .f32 → FVec F S512x768 .f32)
    (hpay : ∀ a s, pay a s = addf a (shapeCast S512x768 s shapeCasts_S1x512x768_S512x768))
    (hsc : (slot (g + 1) (Nat.succ_lt_succ hg)).view.ref.isScScratch = false) (hsrc : (slot g (Nat.lt_succ_of_lt hg)).view.WordExact) (hdst : (slot (g + 1) (Nat.succ_lt_succ hg)).view.WordExact)
    (hsem : DmaTarget.Typed .vmem (SemLoc.dma (recvS g hg)) (.remote (p := Proc.tc) (Dev.tc n : Thread nD τ) (slot (g + 1) (Nat.succ_lt_succ hg)) (.dma (sendS g hg)) hsc))
    (h1 : (slot (g + 1) (Nat.succ_lt_succ hg)).view.WordExact) (h2 : (slot g (Nat.lt_succ_of_lt hg)).view.WordExact)
    (h3 : (slot g (Nat.lt_succ_of_lt hg)).view.WordExact) (h4 : (slot (g + 1) (Nat.succ_lt_succ hg)).view.WordExact)
    (hl1 : (Memref.whole cc0_scratch3).view.LoadsAt accR.toLoadRect) (hl2 : ringM.view.LoadsAt (slotR (g + 1) (Nat.succ_lt_succ hg)).toLoadRect)
    (hl3 : (Memref.whole cc0_scratch3).view.LoadsAt accR.toLoadRect)
    (hst : ((Memref.whole cc0_scratch3).access accR).Stores Finset.univ) (hm : (Finset.univ : Finset accR.shape.Idx) = Finset.univ ∨ ∀ a, accR.stride a = 1) :
    iprop(stepGhost P c g hg κs κr κn ∗ levAts L lv ∗ cred (tallyAt (recvCell c g hg) () N) ∗ (∃ f, slotPts (F := F) (nxt c) (g + 1) (Nat.succ_lt_succ hg) f)
        ∗ (∃ W, owes (c : Thread nD τ) (R c (7 - g)) W)
        ∗ slotPts c g (Nat.lt_succ_of_lt hg) (ringBuf P c) ∗ bufPts c cc0_scratch3 (accV P c g))
    ⊢ iprop(((∃ W, owes (c : Thread nD τ) (R c (6 - g)) W) ∗ slotPts c (g + 1) (Nat.succ_lt_succ hg) (ringBuf P c) ∗ bufPts c cc0_scratch3 (accV P c (g + 1))
          ∗ slotPts c g (Nat.lt_succ_of_lt hg) (ringBuf P c) ∗ semVal (sendCell c g hg) 0 ∗ semVal (recvCell c g hg) 0
        -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (slot g (Nat.lt_succ_of_lt hg)) (.remote (Dev.tc n : Thread nD τ) (slot (g + 1) (Nat.succ_lt_succ hg)) (.dma (sendS g hg)) hsc) (.dma (recvS g hg)) hsrc hdst hsem) fun _ =>
          .op (.waitDma2 (sendS g hg) (slot (g + 1) (Nat.succ_lt_succ hg)) (slot g (Nat.lt_succ_of_lt hg)) h1 h2) fun _ =>
          .op (.waitDma2 (recvS g hg) (slot g (Nat.lt_succ_of_lt hg)) (slot (g + 1) (Nat.succ_lt_succ hg)) h3 h4) fun _ =>
          .op (.load (e := .f32) (Memref.whole cc0_scratch3) accR.toLoadRect hl1) fun (a : FVec F S512x768 .f32) =>
          .op (.load (e := .f32) ringM (slotR (g + 1) (Nat.succ_lt_succ hg)).toLoadRect hl2) fun (s : FVec F S1x512x768 .f32) =>
          .op (.load (e := .f32) (Memref.whole cc0_scratch3) accR.toLoadRect hl3) fun _ =>
          .op (.store (Memref.whole cc0_scratch3) accR (pay a s) Finset.univ hst hm) k) Q) := by
  subst hn
  unfold stepGhost
  iintro ⟨⟨⟨#HIs, #HIr, #HIn, #Hrs, #Hrn⟩, ⟨Has, Har⟩, Hts, Htn⟩, #Hlev, Hcr, ⟨%fn, Hn⟩, ⟨%W, HO⟩, Hs, Hacc⟩ Hk
  -- the copy
  iapply (Rounds.wp_send_pointsTo 𝒱₀ ER (ringRd P) (c : Thread nD τ) none (κ₁ := κs) (κ₂ := κn)
    (r₁ := 0) (r₂ := 0) (d₁ := false) (d₂ := false) (fd := fn) (fs := ringBuf P c) (c' := (nxt c : Thread nD τ)) (src := slot g (Nat.lt_succ_of_lt hg)) (dst := slot (g + 1) (Nat.succ_lt_succ hg))
    (by rw [duties_send]; exact Finset.mem_singleton_self _) (by rw [duties_recv]; exact Finset.mem_singleton_self _)
    () () N (slot_amount (g + 1) (Nat.succ_lt_succ hg) (recvS g hg)) (amount_dma P c (sendS g hg) false) (amount_dma P (nxt c) (recvS g hg) false) (R c (6 - g)) (R_step c g hg) (W := W)
    (by rw [payload_send])
    (by rw [payload_recv]; exact Entails.of_eq (pointsTo_congr fun i hi => land_slot P c g hg fn i hi))) $$ [Hs Hn HO Hts Htn]
  · isplitr; · iexact HIs
    isplitr; · iexact HIn
    isplitl [Hs]; · iexact Hs
    isplitl [Hn]; · iexact Hn
    isplitl [HO]; · iexact HO
    isplitl [Hts]; · iexact Hts
    isplitr; · iexact Hrs
    isplitl [Htn]; · iexact Htn
    iexact Hrn
  iintro ⟨HcS, HO⟩
  -- the wait for the copy sent
  iapply (Rounds.wp_wait_rest_token 𝒱₀ ER (ringRd P) (c : Thread nD τ) none (κ := κs)
      (wpE_waitDma2_eq 𝒱₀ (c : Thread nD τ) none Set.univ) (Set.mem_univ _) () (O := R c (6 - g)) (W := W) (R := 0) (m := 0) (T := ∅)
      (by rw [Nat.zero_add, expect_send])) $$ [HcS HO Has]
  · isplitr; · iexact HIs
    isplitl [HcS]; · iexact HcS
    isplitl [HO]; · iexact HO
    isplitr; · iapply (mayWait_R (F := F) c (.dma (sendS g hg)) (6 - g) (by omega) (by rw [lvs_send]; omega)); iexact Hlev
    iexact Has
  iintro ⟨HO, Has, -, Hpay⟩
  ihave Hs := (Entails.of_eq (rest_send P c g hg)) $$ Hpay
  -- the wait for the copy received
  iapply (Rounds.wp_wait_rest_token 𝒱₀ ER (ringRd P) (c : Thread nD τ) none (κ := κr)
      (wpE_waitDma2_eq 𝒱₀ (c : Thread nD τ) none Set.univ) (Set.mem_univ _) () (O := R c (6 - g))
      (W := insert (SemLoc.dma (sendS g hg), ()) W) (R := 0) (m := 0) (T := ∅)
      (by rw [Nat.zero_add, expect_recv])) $$ [Hcr HO Har]
  · isplitr; · iexact HIr
    isplitl [Hcr]; · iexact Hcr
    isplitl [HO]; · iexact HO
    isplitr; · iapply (mayWait_R (F := F) c (.dma (recvS g hg)) (6 - g) (by omega) (by rw [lvs_recv]; omega)); iexact Hlev
    iexact Har
  iintro ⟨HO, Har, -, Hpay⟩
  ihave Hs1 := (Entails.of_eq (rest_recv P c g hg)) $$ Hpay
  imod (Rounds.cell_close ER (ringRd P) (Set.mem_univ κs) (fun h => h) (R := 0 + 1) (duties_later P (sendCell c g hg))) $$ [Has] with HzS
  · isplitr; · iexact HIs
    iexact Has
  imod (Rounds.cell_close ER (ringRd P) (Set.mem_univ κr) (fun h => h) (R := 0 + 1) (duties_later P (recvCell c g hg))) $$ [Har] with HzR
  · isplitr; · iexact HIr
    iexact Har
  -- the sum
  iapply (wp_load 𝒱₀ (c : Thread nD τ) none Set.univ (m := Memref.whole cc0_scratch3) (acc_sub _)) $$ Hacc; iintro Hacc
  iapply (wp_load 𝒱₀ (c : Thread nD τ) none Set.univ (m := ringM) (load_slot_sub (g + 1) (Nat.succ_lt_succ hg))) $$ Hs1; iintro Hs1
  iapply (wp_load 𝒱₀ (c : Thread nD τ) none Set.univ (m := Memref.whole cc0_scratch3) (acc_sub _)) $$ Hacc; iintro Hacc
  iapply (wp_store 𝒱₀ (c : Thread nD τ) none Set.univ (m := Memref.whole cc0_scratch3) (r := accR) (Mk := Finset.univ) (acc_sub _)) $$ Hacc; iintro Hacc
  iapply Hk
  isplitl [HO]; · iexists _; iexact HO
  isplitl [Hs1]; · iexact Hs1
  isplitl [Hacc]
  · rw [hpay, load_slot, acc_read, acc_write]
    iexact Hacc
  isplitl [Hs]; · iexact Hs
  isplitl [HzS]; · iexact HzS
  iexact HzR

end Cert.RingAttn

end
-- ==== Proof.Device.lean ====
/-
  What one device computes before the ring: its 8 heads of attention and their product with its rows of `Wo`.

  Batch entry `b` (of 2) and head `h` (of the device's 8) give a tile of 256 × 64 numbers at row `256 b` and
  column `64 h` of a matrix of 512 × 512. The kernel writes the 16 tiles one by one; here they are ONE function
  of the place, `attnV`. The device's partial product is `partV` of it.
-/
module

public import proofs.«01_k».proof.Proof.Gen.KernelIdeal.Skeleton
public import proofs.«01_k».proof.Proof.Slots

@[expose] public section

noncomputable section

namespace Cert.RingAttn

open Cert.KernelIdeal Cert.KernelIdeal.Gen
open Idealize.ShloMosaic Idealize.ShloMosaic.TcCoe
open Idealize.ShloMosaic.ValueIdx

variable {F : FTy → Type} [FloatOps F]

/-! ## The tiles -/

/-- Batch entry `b` of the activations, -/
def xBlock (x : FVec F S2x256x768 .f32) (b : Fin 2) : FVec F S1x256x768 .f32 :=
  fun i => x (ix3 (n0 := 2) (n1 := 256) (n2 := 768) b (i 1) (i 2))
/-- head `h` of batch entry `b` of the device's keys (or values), -/
def kBlock (k : FVec F S2x512x8x64 .f32) (b : Fin 2) (h : Fin 8) : FVec F S1x512x1x64 .f32 :=
  fun i => k (ix4 (n0 := 2) (n1 := 512) (n2 := 8) (n3 := 64) b (i 1) h (i 3))
/-- and columns `64 h …` of the queries. -/
def qSlice (q : FVec F S256x512 .f32) (h : Fin 8) : FVec F S256x64 .f32 :=
  fun i => q (ix2 (n0 := 256) (n1 := 512) (i 0) ⟨64 * h.val + (i 1).val, by have h1 : (i 1).val < 64 := (i 1).isLt; omega⟩)

/-- One head's attention: queries, keys and values to a tile. -/
def attnTile (x : FVec F S2x256x768 .f32) (wq : FVec F S768x512 .f32) (k v : FVec F S2x512x8x64 .f32) (b : Fin 2) (h : Fin 8) : FVec F S256x64 .f32 :=
  k0_pay15 (qSlice (k0_pay4 (xBlock x b) wq) h) (kBlock k b h) (kBlock v b h)

/-- The attention matrix, place by place. -/
def attnV (x : FVec F S2x256x768 .f32) (wq : FVec F S768x512 .f32) (k v : FVec F S2x512x8x64 .f32) : FVec F S512x512 .f32 :=
  fun i => attnTile x wq k v ⟨(i 0).val / 256, by have h : (i 0).val < 512 := (i 0).isLt; omega⟩
    ⟨(i 1).val / 64, by have h : (i 1).val < 512 := (i 1).isLt; omega⟩
    (ix2 (n0 := 256) (n1 := 64) ⟨(i 0).val % 256, Nat.mod_lt _ (by decide)⟩ ⟨(i 1).val % 64, Nat.mod_lt _ (by decide)⟩)

/-- The device's partial product. -/
def partV (a : FVec F S512x512 .f32) (wo : FVec F S512x768 .f32) : FVec F S512x768 .f32 := k0_pay42 a wo

/-- The device's 8 heads of the keys (or values): device `c` takes heads `8 c …`. -/
def kvSlice (c : Dev nD) (kf : FVec F S2x512x64x64 .f32) : FVec F S2x512x8x64 .f32 :=
  fun i => kf (ix4 (n0 := 2) (n1 := 512) (n2 := 64) (n3 := 64) (i 0) (i 1)
    ⟨8 * c.val + (i 2).val, by have h : (i 2).val < 8 := (i 2).isLt; have hc : c.val < 8 := c.isLt; omega⟩ (i 3))

/-- A tile is the attention matrix on the tile's rectangle. -/
theorem tile_apply (x : FVec F S2x256x768 .f32) (wq : FVec F S768x512 .f32) (k v : FVec F S2x512x8x64 .f32) (b : Fin 2) (h : Fin 8)
    (inb : ∀ a, (![256 * b.val, 64 * h.val] : Fin 2 → ℕ) a + S256x64.size a ≤ S512x512.size a)
    (y : (Rect.unit (s := S512x512) ![256 * b.val, 64 * h.val] S256x64.size inb).shape.Idx) :
    attnTile x wq k v b h y = attnV x wq k v ((Rect.unit (s := S512x512) ![256 * b.val, 64 * h.val] S256x64.size inb).emb y) := by
  have h0 : (y 0).val < 256 := (y 0).isLt
  have h1 : (y 1).val < 64 := (y 1).isLt
  have e0 : (((Rect.unit (s := S512x512) ![256 * b.val, 64 * h.val] S256x64.size inb).emb y) 0).val = 256 * b.val + (y 0).val := by
    rw [Rect.emb_apply]; show 256 * b.val + 1 * (y 0).val = _; omega
  have e1 : (((Rect.unit (s := S512x512) ![256 * b.val, 64 * h.val] S256x64.size inb).emb y) 1).val = 64 * h.val + (y 1).val := by
    rw [Rect.emb_apply]; show 64 * h.val + 1 * (y 1).val = _; omega
  unfold attnV
  have ib : (⟨(((Rect.unit (s := S512x512) ![256 * b.val, 64 * h.val] S256x64.size inb).emb y) 0).val / 256, by rw [e0]; omega⟩ : Fin 2) = b :=
    Fin.ext (by show _ / 256 = _; rw [e0]; omega)
  have ih : (⟨(((Rect.unit (s := S512x512) ![256 * b.val, 64 * h.val] S256x64.size inb).emb y) 1).val / 64, by rw [e1]; omega⟩ : Fin 8) = h :=
    Fin.ext (by show _ / 64 = _; rw [e1]; omega)
  rw [ib, ih]
  refine congrArg _ (funext fun a => Fin.ext ?_)
  match a with
  | ⟨0, _⟩ => show (y 0).val = _ % 256; rw [e0]; omega
  | ⟨1, _⟩ => show (y 1).val = _ % 64; rw [e1]; omega

/-- The columns `64 h …` of the queries, as a slice. -/
theorem slice_eq_qSlice (q : FVec F S256x512 .f32) (h : Fin 8) (hs : S256x512.Slices ![0, 64 * h.val] S256x64) :
    extractStridedSlice S256x64 ![0, 64 * h.val] q hs = qSlice q h := by
  funext i
  refine extractStridedSlice_apply _ _ _ _ _ fun a => ?_
  match a with
  | ⟨0, _⟩ => exact (Nat.zero_add _).symm
  | ⟨1, _⟩ => rfl

/-! ## What the loads read -/

/-- A load of batch entry `b` of the activations. -/
theorem load_x (x : FVec F S2x256x768 .f32) (b : Fin 2) (inb : ∀ a, (![b.val, 0, 0] : Fin 3 → ℕ) a + S1x256x768.size a ≤ S2x256x768.size a) :
    View.readAt (Elt F) (Memref.whole cc0_stg0_0).view (Rect.unit (s := S2x256x768) ![b.val, 0, 0] S1x256x768.size inb).toLoadRect x = xBlock x b := by
  funext i
  refine congrArg x (funext fun a => Fin.ext ?_)
  have h0 : (i 0).val < 1 := (i 0).isLt
  match a with
  | ⟨0, _⟩ => show b.val + 1 * (i 0).val = b.val; omega
  | ⟨1, _⟩ => show 0 + 1 * (i 1).val = (i 1).val; omega
  | ⟨2, _⟩ => show 0 + 1 * (i 2).val = (i 2).val; omega

/-- A load of one head out of a buffer filled whole. -/
theorem load_kv [∀ e, Nonempty (Elt F e)] {sp : Space} (m : View sig .tc sp S2x512x8x64 .f32) (w : FVec F S2x512x8x64 .f32) (b : Fin 2) (h : Fin 8)
    (inb : ∀ a, (![b.val, 0, h.val, 0] : Fin 4 → ℕ) a + S1x512x1x64.size a ≤ S2x512x8x64.size a) :
    View.readCov (Val := Elt F) m [⟨Rect.whole S2x512x8x64, w⟩] (Rect.unit (s := S2x512x8x64) ![b.val, 0, h.val, 0] S1x512x1x64.size inb).toLoadRect = kBlock w b h := by
  rw [View.readCov_eq_canon_ld _ _ _ (fun y => ⟨_, List.mem_singleton_self _, by
    show y ∈ (Rect.whole S2x512x8x64).set; rw [Rect.set_whole]; exact Finset.mem_univ y⟩)]
  have hw : View.canon (Val := Elt F) (e := .f32) [⟨Rect.whole S2x512x8x64, w⟩] = w := by
    funext y
    have e := View.canon_cons_emb (Val := Elt F) (e := .f32) (Rect.whole S2x512x8x64) w [] y
    rw [Rect.emb_whole_apply] at e
    exact e
  rw [hw]
  funext i
  refine congrArg w (funext fun a => Fin.ext ?_)
  have h0 : (i 0).val < 1 := (i 0).isLt
  have h2 : (i 2).val < 1 := (i 2).isLt
  match a with
  | ⟨0, _⟩ => show b.val + 1 * (i 0).val = b.val; omega
  | ⟨1, _⟩ => show 0 + 1 * (i 1).val = (i 1).val; omega
  | ⟨2, _⟩ => show h.val + 1 * (i 2).val = h.val; omega
  | ⟨3, _⟩ => show 0 + 1 * (i 3).val = (i 3).val; omega

/-- Where device `c`'s heads start. -/
theorem off1_eq (c : Dev nD) : k0_off1 c = ![0, 0, 8 * c.val, 0] := by revert c; decide +kernel

/-- What the copy of the device's heads brings. -/
theorem copy_kv (kf : FVec F S2x512x64x64 .f32) (c : Dev nD) (inb : ∀ a, k0_off1 c a + S2x512x8x64.size a ≤ S2x512x64x64.size a) :
    (fun i => kf ((Rect.unit (s := S2x512x64x64) (k0_off1 c) S2x512x8x64.size inb).emb i)) = kvSlice c kf := by
  funext i
  refine congrArg kf (funext fun a => Fin.ext ?_)
  have h : ∀ a, ((Rect.unit (s := S2x512x64x64) (k0_off1 c) S2x512x8x64.size inb).emb i a).val = (![0, 0, 8 * c.val, 0] : Fin 4 → ℕ) a + 1 * (i a).val := by
    intro a; rw [Rect.emb_apply, ← off1_eq]; rfl
  rw [h]
  match a with
  | ⟨0, _⟩ => show 0 + 1 * (i 0).val = (i 0).val; omega
  | ⟨1, _⟩ => show 0 + 1 * (i 1).val = (i 1).val; omega
  | ⟨2, _⟩ => show 8 * c.val + 1 * (i 2).val = 8 * c.val + (i 2).val; omega
  | ⟨3, _⟩ => show 0 + 1 * (i 3).val = (i 3).val; omega

/-- A tile the kernel stores, from what its loads read. -/
theorem tile_stored (x : FVec F S2x256x768 .f32) (wq : FVec F S768x512 .f32) (k v : FVec F S2x512x8x64 .f32) (b : Fin 2) (h : Fin 8)
    (xb : FVec F S1x256x768 .f32) (wq' : FVec F S768x512 .f32) (kb vb : FVec F S1x512x1x64 .f32)
    (hx : xb = xBlock x b) (hw : wq' = wq) (hk : kb = kBlock k b h) (hv : vb = kBlock v b h)
    (hs : S256x512.Slices ![0, 64 * h.val] S256x64)
    (inb : ∀ a, (![256 * b.val, 64 * h.val] : Fin 2 → ℕ) a + S256x64.size a ≤ S512x512.size a)
    (y : (Rect.unit (s := S512x512) ![256 * b.val, 64 * h.val] S256x64.size inb).shape.Idx) :
    k0_pay15 (extractStridedSlice S256x64 ![0, 64 * h.val] (k0_pay4 xb wq') hs) kb vb y
      = attnV x wq k v ((Rect.unit (s := S512x512) ![256 * b.val, 64 * h.val] S256x64.size inb).emb y) := by
  subst hx hw hk hv
  rw [slice_eq_qSlice]
  exact tile_apply x wq' k v b h inb y

/-- The attention matrix read back whole, after stores of pieces of it that cover it. -/
theorem attn_read [∀ e, Nonempty (Elt F e)] (G : FVec F S512x512 .f32) (L : List (View.Piece (Elt F) S512x512 .f32))
    (hL : ∀ p ∈ L, ∀ y : p.1.shape.Idx, p.2 y = G (p.1.emb y)) (hc : ∀ y : S512x512.Idx, ∃ p ∈ L, y ∈ p.1.set)
    (inb : ∀ a, (![0, 0] : Fin 2 → ℕ) a + S512x512.size a ≤ S512x512.size a) :
    (Memref.whole cc0_scratch2).view.readCov L (Rect.unit (s := S512x512) ![0, 0] S512x512.size inb).toLoadRect = G := by
  rw [View.readCov_eq_canon_ld _ _ _ hc, View.ld_unit_zero (by decide)]
  exact funext fun y => View.canon_apply_of_pieces G L hL y (hc y)

/-- A load of the device's rows of `Wo`, whole, -/
theorem load_wo (w : FVec F S512x768 .f32) (inb : ∀ a, (![0, 0] : Fin 2 → ℕ) a + S512x768.size a ≤ S512x768.size a) :
    View.readAt (Elt F) (Memref.whole cc0_stg2_0).view (Rect.unit (s := S512x768) ![0, 0] S512x768.size inb).toLoadRect w = w :=
  Memref.readAt_unit_zero (Elt F) cc0_stg2_0 (off := ![0, 0]) (by decide) inb w
/-- and of its columns of `Wq`. -/
theorem load_wq (w : FVec F S768x512 .f32) (inb : ∀ a, (![0, 0] : Fin 2 → ℕ) a + S768x512.size a ≤ S768x512.size a) :
    View.readAt (Elt F) (Memref.whole cc0_stg1_0).view (Rect.unit (s := S768x512) ![0, 0] S768x512.size inb).toLoadRect w = w :=
  Memref.readAt_unit_zero (Elt F) cc0_stg1_0 (off := ![0, 0]) (by decide) inb w

theorem slices_q (h : Fin 8) : S256x512.Slices ![0, 64 * h.val] S256x64 :=
  ⟨rfl, fun a => by
    have hh : h.val < 8 := h.isLt
    match a with
    | ⟨0, _⟩ => exact Nat.le_refl 256
    | ⟨1, _⟩ => show 64 * h.val + 64 ≤ 512; omega⟩

/-- A tile the kernel stores, as its loads spell it: out of the device's heads `dk`, `dv`, copied whole. -/
theorem tile_loaded [∀ e, Nonempty (Elt F e)] (x : FVec F S2x256x768 .f32) (wq : FVec F S768x512 .f32) (k v dk dv : FVec F S2x512x8x64 .f32)
    (hk : dk = k) (hv : dv = v) (b : Fin 2) (h : Fin 8)
    (ix : ∀ a, (![b.val, 0, 0] : Fin 3 → ℕ) a + S1x256x768.size a ≤ S2x256x768.size a)
    (iq : ∀ a, (![0, 0] : Fin 2 → ℕ) a + S768x512.size a ≤ S768x512.size a)
    (ik : ∀ a, (![b.val, 0, h.val, 0] : Fin 4 → ℕ) a + S1x512x1x64.size a ≤ S2x512x8x64.size a)
    (inb : ∀ a, (![256 * b.val, 64 * h.val] : Fin 2 → ℕ) a + S256x64.size a ≤ S512x512.size a) :
    ∀ y : (Rect.unit (s := S512x512) ![256 * b.val, 64 * h.val] S256x64.size inb).shape.Idx,
      k0_pay15 (extractStridedSlice S256x64 ![0, 64 * h.val]
          (k0_pay4 (View.readAt (Elt F) (Memref.whole cc0_stg0_0).view (Rect.unit (s := S2x256x768) ![b.val, 0, 0] S1x256x768.size ix).toLoadRect x)
            (View.readAt (Elt F) (Memref.whole cc0_stg1_0).view (Rect.unit (s := S768x512) ![0, 0] S768x512.size iq).toLoadRect wq)) (slices_q h))
        (View.readCov (Val := Elt F) (Memref.whole cc0_scratch0).view [⟨Rect.whole S2x512x8x64, dk⟩] (Rect.unit (s := S2x512x8x64) ![b.val, 0, h.val, 0] S1x512x1x64.size ik).toLoadRect)
        (View.readCov (Val := Elt F) (Memref.whole cc0_scratch1).view [⟨Rect.whole S2x512x8x64, dv⟩] (Rect.unit (s := S2x512x8x64) ![b.val, 0, h.val, 0] S1x512x1x64.size ik).toLoadRect) y
      = attnV x wq k v ((Rect.unit (s := S512x512) ![256 * b.val, 64 * h.val] S256x64.size inb).emb y) := by
  subst hk hv
  exact fun y => tile_stored x wq dk dv b h _ _ _ _ (load_x x b ix) (load_wq wq iq) (load_kv _ dk b h ik) (load_kv _ dv b h ik) (slices_q h) inb y

/-- The partial product, stored over the whole accumulator. -/
theorem acc_first (f : FVec F S512x768 .f32) (a : FVec F S512x512 .f32) (wo : FVec F S512x768 .f32) :
    (Memref.whole cc0_scratch3).view.writes (Elt F) f [⟨Rect.unit (s := S512x768) ![0, 0] ![512, 768] inb_S512x768_S512x768_0_0, k0_pay43 a wo⟩] = partV a wo :=
  (Memref.write_access_unit_zero_univ (Elt F) cc0_scratch3 (off := ![0, 0]) (by decide) inb_S512x768_S512x768_0_0 f (k0_pay43 a wo)).trans
    (shapeCast_self _ _)

/-- The partial product, stored over slot 0. -/
theorem slot_first (P : Dev nD → FVec F S512x768 .f32) (c : Dev nD) (f : FVec F S8x512x768 .f32) (a : FVec F S512x512 .f32) (wo : FVec F S512x768 .f32)
    (hP : partV a wo = P c) (i : S8x512x768.Idx) (hi : i ∈ (slot 0 (Nat.zero_lt_succ 7)).view.set) :
    (ringM.access (Rect.unit (s := S8x512x768) ![0, 0, 0] ![1, 512, 768] inb_S8x512x768_S1x512x768_0_0_0)).write (Elt F) f (k0_pay44 a wo) Finset.univ i = ringBuf P c i := by
  have h0 : (i 0).val = 0 := (mem_slot 0 (Nat.zero_lt_succ 7) i).1 hi
  have he : i = (ringM.access (Rect.unit (s := S8x512x768) ![0, 0, 0] ![1, 512, 768] inb_S8x512x768_S1x512x768_0_0_0)).emb
      (ix3 (n0 := 1) (n1 := 512) (n2 := 768) 0 (i 1) (i 2)) := by
    funext d
    refine Fin.ext ?_
    match d with
    | ⟨0, _⟩ => exact h0
    | ⟨1, _⟩ => show (i 1).val = 0 + 1 * (i 1).val; omega
    | ⟨2, _⟩ => show (i 2).val = 0 + 1 * (i 2).val; omega
  have hr : ringBuf P c i = P c (ix2 (n0 := 512) (n1 := 768) (i 1) (i 2)) := by
    unfold ringBuf; rw [h0, back_zero]
  rw [hr, ← hP]
  refine (congrArg _ he).trans ((View.write_emb_of_mem (Val := Elt F) (v := ringM.access (Rect.unit (s := S8x512x768) ![0, 0, 0] ![1, 512, 768] inb_S8x512x768_S1x512x768_0_0_0)) f (k0_pay44 a wo) (Finset.mem_univ _)).trans ?_)
  exact shapeCast_ab_1ab_apply (a := 512) (b := 768) (k0_pay42 a wo) shapeCasts_S512x768_S1x512x768 0 (i 1) (i 2)

/-! ## The result -/

/-- The result block of a device: the rows of the sum, 256 to a batch entry. -/
def outV (a : FVec F S512x768 .f32) : FVec F S2x256x768 .f32 :=
  fun i => a (ix2 (n0 := 512) (n1 := 768) ⟨256 * (i 0).val + (i 1).val, by
    have h0 : (i 0).val < 2 := (i 0).isLt
    have h1 : (i 1).val < 256 := (i 1).isLt
    omega⟩ (i 2))

/-- One batch entry of the result, as the kernel stores it. -/
theorem out_piece (a : FVec F S512x768 .f32) (b : Fin 2) (inb : ∀ d, (![256 * b.val, 0] : Fin 2 → ℕ) d + S256x768.size d ≤ S512x768.size d)
    (inb' : ∀ d, (![b.val, 0, 0] : Fin 3 → ℕ) d + S1x256x768.size d ≤ S2x256x768.size d) :
    ∀ y : (Rect.unit (s := S2x256x768) ![b.val, 0, 0] S1x256x768.size inb').shape.Idx,
      k0_pay2 (View.readAt (Elt F) (Memref.whole cc0_scratch3).view (Rect.unit (s := S512x768) ![256 * b.val, 0] S256x768.size inb).toLoadRect a) y
        = outV a ((Rect.unit (s := S2x256x768) ![b.val, 0, 0] S1x256x768.size inb').emb y) := by
  intro y
  obtain ⟨u, i, j, rfl⟩ : ∃ (u : Fin 1) (i : Fin 256) (j : Fin 768), y = ix3 u i j := ⟨_, _, _, eq_ix3 (n0 := 1) (n1 := 256) (n2 := 768) y⟩
  refine (shapeCast_ab_1ab_apply (a := 256) (b := 768)
    (View.readAt (Elt F) (Memref.whole cc0_scratch3).view (Rect.unit (s := S512x768) ![256 * b.val, 0] S256x768.size inb).toLoadRect a)
    shapeCasts_S256x768_S1x256x768 u i j).trans ?_
  refine congrArg a (funext fun d => Fin.ext ?_)
  have hu : u.val < 1 := u.isLt
  match d with
  | ⟨0, _⟩ => show 256 * b.val + 1 * i.val = 256 * (b.val + 1 * u.val) + (0 + 1 * i.val); omega
  | ⟨1, _⟩ => show 0 + 1 * j.val = 0 + 1 * j.val; rfl

/-- The two stores of the result, the last first. -/
abbrev outPieces (a : FVec F S512x768 .f32) : List (View.Piece (Elt F) S2x256x768 .f32) :=
  [⟨Rect.unit (s := S2x256x768) ![1, 0, 0] ![1, 256, 768] inb_S2x256x768_S1x256x768_1_0_0,
      k0_pay3 (View.readAt (Elt F) (Memref.whole cc0_scratch3).view (Rect.unit (s := S512x768) ![256, 0] ![256, 768] inb_S512x768_S256x768_256_0).toLoadRect a)⟩,
    ⟨Rect.unit (s := S2x256x768) ![0, 0, 0] ![1, 256, 768] inb_S2x256x768_S1x256x768_0_0_0,
      k0_pay2 (View.readAt (Elt F) (Memref.whole cc0_scratch3).view (Rect.unit (s := S512x768) ![0, 0] ![256, 768] inb_S512x768_S256x768_0_0).toLoadRect a)⟩]

theorem outPieces_cover (a : FVec F S512x768 .f32) : ∀ y : S2x256x768.Idx, ∃ p ∈ outPieces a, y ∈ p.1.set :=
  View.cover_of_tiled (outPieces a) S1x256x768.size rfl

theorem outPieces_eq (a : FVec F S512x768 .f32) : ∀ p ∈ outPieces a, ∀ y : p.1.shape.Idx, p.2 y = outV a (p.1.emb y) := by
  have h1 : ∀ y : (Rect.unit (s := S2x256x768) ![1, 0, 0] ![1, 256, 768] inb_S2x256x768_S1x256x768_1_0_0).shape.Idx, k0_pay3 (View.readAt (Elt F) (Memref.whole cc0_scratch3).view (Rect.unit (s := S512x768) ![256, 0] ![256, 768] inb_S512x768_S256x768_256_0).toLoadRect a) y = outV a ((Rect.unit (s := S2x256x768) ![1, 0, 0] ![1, 256, 768] inb_S2x256x768_S1x256x768_1_0_0).emb y) :=
    out_piece a 1 inb_S512x768_S256x768_256_0 inb_S2x256x768_S1x256x768_1_0_0
  have h0 : ∀ y : (Rect.unit (s := S2x256x768) ![0, 0, 0] ![1, 256, 768] inb_S2x256x768_S1x256x768_0_0_0).shape.Idx, k0_pay2 (View.readAt (Elt F) (Memref.whole cc0_scratch3).view (Rect.unit (s := S512x768) ![0, 0] ![256, 768] inb_S512x768_S256x768_0_0).toLoadRect a) y = outV a ((Rect.unit (s := S2x256x768) ![0, 0, 0] ![1, 256, 768] inb_S2x256x768_S1x256x768_0_0_0).emb y) :=
    out_piece a 0 inb_S512x768_S256x768_0_0 inb_S2x256x768_S1x256x768_0_0_0
  exact List.forall_mem_cons.2 ⟨h1, List.forall_mem_cons.2 ⟨h0, fun _ h => absurd h List.not_mem_nil⟩⟩

/-- The result block after both stores. -/
theorem out_written (o : FVec F S2x256x768 .f32) (a : FVec F S512x768 .f32) :
    (Memref.whole cc0_stg3_0).view.writes (Elt F) o (outPieces a) = outV a := by
  have h : (Memref.whole cc0_stg3_0).view.read (Elt F) ((Memref.whole cc0_stg3_0).view.writes (Elt F) o (outPieces a)) = outV a :=
    funext fun y => View.read_writes_apply_of_pieces (Val := Elt F) (Memref.whole cc0_stg3_0).view o (outV a) (outPieces a) (outPieces_eq a) y (outPieces_cover a y)
  exact (View.read_whole (Val := Elt F) cc0_stg3_0 _).symm.trans h

end Cert.RingAttn

end
-- ==== Proof.Body.lean ====
/-
  The body of the kernel on device `c`, run from its resources: copies of the device's heads, handshake, attention, partial product,
  seven steps of the ring, result.
-/
module

public import proofs.«01_k».proof.Proof.Step
public import proofs.«01_k».proof.Proof.Device
public import proofs.«01_k».proof.Proof.Gen.KernelIdeal.Points

@[expose] public section

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ

variable (P : Dev nD → FVec F S512x768 .f32)

/-! ## The cells of the ring, numbered -/

/-- Device `c`'s cells: the barrier, the seven send and the seven receive semaphores. -/
def kcell (ck : Dev nD × (Unit ⊕ Fin 7 ⊕ Fin 7)) : GSem nD τ sig := match ck.2 with
  | .inl _ => barCell ck.1
  | .inr (.inl g) => sendCell ck.1 g.val g.isLt
  | .inr (.inr g) => recvCell ck.1 g.val g.isLt
abbrev kBar (c : Dev nD) : Dev nD × (Unit ⊕ Fin 7 ⊕ Fin 7) := (c, .inl ())
abbrev kSend (c : Dev nD) (g : Fin 7) : Dev nD × (Unit ⊕ Fin 7 ⊕ Fin 7) := (c, .inr (.inl g))
abbrev kRecv (c : Dev nD) (g : Fin 7) : Dev nD × (Unit ⊕ Fin 7 ⊕ Fin 7) := (c, .inr (.inr g))

/-- What device `c` is dealt: its own and its neighbours' barriers, and the ghost state of the seven steps. -/
def ghost (K : Dev nD × (Unit ⊕ Fin 7 ⊕ Fin 7) → ℕ) (c : Dev nD) : sProp 𝕄 :=
  iprop((cellInv ER (ringRd P) (K (kBar c)) (barCell c) ∗ cellInv ER (ringRd P) (K (kBar (nxt c))) (barCell (nxt c))
      ∗ cellInv ER (ringRd P) (K (kBar (prv c))) (barCell (prv c)) ∗ reached ER (barCell (nxt c)) 0 ∗ reached ER (barCell (prv c)) 0)
    ∗ (atPos ER (barCell c) 0 ∅ 0 ∗ dutyTok ER (barCell (nxt c)) 0 false ∗ dutyTok ER (barCell (prv c)) 0 true)
    ∗ bigSep Finset.univ fun g : Fin 7 => stepGhost P c g.val g.isLt (K (kSend c g)) (K (kRecv c g)) (K (kRecv (nxt c) g)))

/-- The launch credit: two units for the barrier, a block for each receive. -/
def credits (c : Dev nD) : sProp 𝕄 :=
  iprop(cred (tallyAt (barCell c) () 2) ∗ bigSep Finset.univ fun g : Fin 7 => cred (tallyAt (recvCell c g.val g.isLt) () N))

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

set_option maxHeartbeats 8000000 in
set_option maxRecDepth 20000 in
/-- The body, run effect by effect: `sl_exec` runs the local part up to the first copy of the ring and the stores of the result, the
    handshake and the steps are rules of their own. It ends with the sum of all eight partial products in the result block, every slot
    filled, nothing owed and every counter at zero. -/
theorem sound_body [∀ e, Nonempty (Elt F e)] (K : Dev nD × (Unit ⊕ Fin 7 ⊕ Fin 7) → ℕ) (c : Dev nD) (W : Waits sig Unit) (Kt : PUnit → sProp 𝕄)
    (x : Buf (Elt F) ((c : Thread nD τ).loc cc0_stg0_0)) (wq : Buf (Elt F) ((c : Thread nD τ).loc cc0_stg1_0))
    (wo : Buf (Elt F) ((c : Thread nD τ).loc cc0_stg2_0)) (o : Buf (Elt F) ((c : Thread nD τ).loc cc0_stg3_0))
    (kf : Buf (Elt F) ((c : Thread nD τ).loc main_arg2)) (vf : Buf (Elt F) ((c : Thread nD τ).loc main_arg3))
    (hP : P c = partV (attnV x wq (kvSlice c kf) (kvSlice c vf)) wo)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : FVec F S8x512x768 .f32) (_plan : Transfers.BatchOf (c : Thread nD τ) (SemLoc.dma (sig := sig) kvS) 2) :
    iprop((ghost P K c ∗ credits (F := F) c ∗ levAts L lv ∗ owes (c : Thread nD τ) (O₀ c) W ∗ semVal ((c : Thread nD τ), SemLoc.dma kvS) 0
        ∗ (bufPts c cc0_stg0_0 x ∗ bufPts c cc0_stg1_0 wq ∗ bufPts c cc0_stg2_0 wo ∗ bufPts c cc0_stg3_0 o ∗ bufPts c main_arg2 kf ∗ bufPts c main_arg3 vf)
        ∗ (bufPts c cc0_scratch0 f0 ∗ bufPts c cc0_scratch1 f1 ∗ bufPts c cc0_scratch2 f2 ∗ bufPts c cc0_scratch3 f3)
        ∗ slotPts c 0 (by decide) f4 ∗ barPay (F := F) (prv c))
      ∗ ((∃ W', owes (c : Thread nD τ) 0 W')
        ∗ (bufPts c cc0_stg0_0 x ∗ bufPts c cc0_stg1_0 wq ∗ bufPts c cc0_stg2_0 wo ∗ bufPts c cc0_stg3_0 (outV (accV P c 7)) ∗ bufPts c main_arg2 kf ∗ bufPts c main_arg3 vf)
        ∗ ((∃ f, bufPts c cc0_scratch0 f) ∗ (∃ f, bufPts c cc0_scratch1 f) ∗ (∃ f, bufPts c cc0_scratch2 f) ∗ (∃ f, bufPts c cc0_scratch3 f))
        ∗ (slotPts c 0 (by decide) (ringBuf P c) ∗ slotPts c 1 (by decide) (ringBuf P c) ∗ slotPts c 2 (by decide) (ringBuf P c) ∗ slotPts c 3 (by decide) (ringBuf P c)
          ∗ slotPts c 4 (by decide) (ringBuf P c) ∗ slotPts c 5 (by decide) (ringBuf P c) ∗ slotPts c 6 (by decide) (ringBuf P c) ∗ slotPts c 7 (by decide) (ringBuf P c))
        ∗ semVal (barCell c) 0 ∗ semVal ((c : Thread nD τ), SemLoc.dma kvS) 0
        ∗ (bigSep Finset.univ fun g : Fin 7 => semVal (sendCell c g.val g.isLt) 0) ∗ (bigSep Finset.univ fun g : Fin 7 => semVal (recvCell c g.val g.isLt) 0)
        -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole main_arg2) (Memref.isWhole_whole _) (Memref.whole main_arg3) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7) Kt := by
  unfold ghost credits
  rw [bigSep_fin7, bigSep_fin7, bigSep_fin7, bigSep_fin7]
  iintro ⟨⟨⟨⟨#HIb, #HIn, #HIp, #Hrn, #Hrp⟩, ⟨Hat, HtN, HtP⟩, G0, G1, G2, G3, G4, G5, G6⟩, ⟨Hcr, C0, C1, C2, C3, C4, C5, C6⟩, #Hlev, HO, Hkv, ⟨Hx, Hwq, Hwo, Ho, HK, HV⟩, ⟨H0, H1, H2, H3⟩, Hs0, Hs⟩, Hk⟩
  have hmw : (levAts L lv : sProp 𝕄) ⊢ MayWait (c : Thread nD τ) (.dma kvS) default (R c 7) :=
    mayWait_R (F := F) c (.dma kvS) 7 (le_refl 7) (by rw [lvs_kv]; decide)
  simp only [cc0_body_eq_skeleton]; unfold cc0_body_skel
  sl_open_parts
  simp only [semSignalWord, semWaitWord, Prog.lift, Prog.bind_op, Prog.bind_ret, Prog.pure_eq_ret, wp_deviceId]
  sl_exec
  iapply (wp_shake P c _ _ (dev1_eq c) (dev2_eq c) (K (kBar c)) (K (kBar (nxt c))) (K (kBar (prv c)))) $$ [Hat HtN HtP Hcr HO Hs]
  · isplitr; · iexact HIb
    isplitr; · iexact HIn
    isplitr; · iexact HIp
    isplitr; · iexact Hlev
    isplitr; · iexact Hrn
    isplitr; · iexact Hrp
    isplitl [Hat]; · iexact Hat
    isplitl [HtN]; · iexact HtN
    isplitl [HtP]; · iexact HtP
    isplitl [Hcr]; · iexact Hcr
    isplitl [HO]; · iexact HO
    iexact Hs
  iintro ⟨⟨%W', HO⟩, Hat, Hn⟩
  sl_exec
  have hk : sound_body.sl.dma0 c kf = kvSlice c kf := copy_kv kf c _
  have hv : sound_body.sl.dma1 c vf = kvSlice c vf := copy_kv vf c _
  have e32 : sound_body.sl.x_32 c x wq kf vf = attnV x wq (kvSlice c kf) (kvSlice c vf) := by
    unfold sound_body.sl.x_32
    refine attn_read _ _ ?_ ?_ _
    · unfold sound_body.sl.H2_16
      simp only [List.forall_mem_cons]
      exact ⟨tile_loaded x wq _ _ _ _ hk hv 1 7 _ _ _ _,
        tile_loaded x wq _ _ _ _ hk hv 1 6 _ _ _ _,
        tile_loaded x wq _ _ _ _ hk hv 1 5 _ _ _ _,
        tile_loaded x wq _ _ _ _ hk hv 1 4 _ _ _ _,
        tile_loaded x wq _ _ _ _ hk hv 1 3 _ _ _ _,
        tile_loaded x wq _ _ _ _ hk hv 1 2 _ _ _ _,
        tile_loaded x wq _ _ _ _ hk hv 1 1 _ _ _ _,
        tile_loaded x wq _ _ _ _ hk hv 1 0 _ _ _ _,
        tile_loaded x wq _ _ _ _ hk hv 0 7 _ _ _ _,
        tile_loaded x wq _ _ _ _ hk hv 0 6 _ _ _ _,
        tile_loaded x wq _ _ _ _ hk hv 0 5 _ _ _ _,
        tile_loaded x wq _ _ _ _ hk hv 0 4 _ _ _ _,
        tile_loaded x wq _ _ _ _ hk hv 0 3 _ _ _ _,
        tile_loaded x wq _ _ _ _ hk hv 0 2 _ _ _ _,
        tile_loaded x wq _ _ _ _ hk hv 0 1 _ _ _ _,
        tile_loaded x wq _ _ _ _ hk hv 0 0 _ _ _ _,
        fun _ h => absurd h List.not_mem_nil⟩
    · unfold sound_body.sl.H2_16
      exact View.cover_of_tiled _ S256x64.size rfl
  have hacc : (Memref.whole cc0_scratch3).view.writes (Elt F) f3 [⟨Rect.unit (s := S512x768) ![0, 0] ![512, 768] inb_S512x768_S512x768_0_0,
      k0_pay43 (sound_body.sl.x_32 c x wq kf vf) (View.readAt (Elt F) (Memref.whole cc0_stg2_0).view (Rect.unit (s := S512x768) ![0, 0] ![512, 768] inb_S512x768_S512x768_0_0).toLoadRect wo)⟩] = accV P c 0 := by
    rw [e32, load_wo]
    exact (acc_first _ _ _).trans hP.symm
  have hs0 : ∀ i ∈ (slot 0 (Nat.zero_lt_succ 7)).view.set, sound_body.sl.Hs0_w1 c x wq wo kf vf f4 i = ringBuf P c i := by
    unfold sound_body.sl.Hs0_w1
    rw [e32, load_wo]
    intro i hi
    exact slot_first P c f4 _ _ hP.symm i hi
  ihave Hacc := (Entails.of_eq (congrArg (bufPts c cc0_scratch3) hacc)) $$ H3
  ihave Hs0 := (Entails.of_eq (pointsTo_congr hs0)) $$ Hs0
  unfold barPay
  icases Hn with ⟨N1, N2, N3, N4, N5, N6, N7⟩
  iapply (wp_step P c _ 0 (by decide) (dev3_eq c) _ _ _ _ _ (fun a s => k0_pay46 a (k0_pay45 s)) (fun _ _ => shapeCast_self _ _) _ _ _ _ _ _ _ _ _ _ _ _ _) $$ [G0 C0 N1 HO Hs0 Hacc]
  · isplitl [G0]; · iexact G0
    isplitr; · iexact Hlev
    isplitl [C0]; · iexact C0
    isplitl [N1]; · iexact N1
    isplitl [HO]; · iexists _; iexact HO
    isplitl [Hs0] <;> iassumption
  iintro ⟨HO, Hs1, Hacc, Hs0, ZS0, ZR0⟩
  iapply (wp_step P c _ 1 (by decide) (dev4_eq c) _ _ _ _ _ (k0_pay47) (fun _ _ => shapeCast_self _ _) _ _ _ _ _ _ _ _ _ _ _ _ _) $$ [G1 C1 N2 HO Hs1 Hacc]
  · isplitl [G1]; · iexact G1
    isplitr; · iexact Hlev
    isplitl [C1]; · iexact C1
    isplitl [N2]; · iexact N2
    isplitl [HO]; · iexact HO
    isplitl [Hs1] <;> iassumption
  iintro ⟨HO, Hs2, Hacc, Hs1, ZS1, ZR1⟩
  iapply (wp_step P c _ 2 (by decide) (dev5_eq c) _ _ _ _ _ (k0_pay48) (fun _ _ => shapeCast_self _ _) _ _ _ _ _ _ _ _ _ _ _ _ _) $$ [G2 C2 N3 HO Hs2 Hacc]
  · isplitl [G2]; · iexact G2
    isplitr; · iexact Hlev
    isplitl [C2]; · iexact C2
    isplitl [N3]; · iexact N3
    isplitl [HO]; · iexact HO
    isplitl [Hs2] <;> iassumption
  iintro ⟨HO, Hs3, Hacc, Hs2, ZS2, ZR2⟩
  iapply (wp_step P c _ 3 (by decide) (dev6_eq c) _ _ _ _ _ (k0_pay49) (fun _ _ => shapeCast_self _ _) _ _ _ _ _ _ _ _ _ _ _ _ _) $$ [G3 C3 N4 HO Hs3 Hacc]
  · isplitl [G3]; · iexact G3
    isplitr; · iexact Hlev
    isplitl [C3]; · iexact C3
    isplitl [N4]; · iexact N4
    isplitl [HO]; · iexact HO
    isplitl [Hs3] <;> iassumption
  iintro ⟨HO, Hs4, Hacc, Hs3, ZS3, ZR3⟩
  iapply (wp_step P c _ 4 (by decide) (dev7_eq c) _ _ _ _ _ (k0_pay50) (fun _ _ => shapeCast_self _ _) _ _ _ _ _ _ _ _ _ _ _ _ _) $$ [G4 C4 N5 HO Hs4 Hacc]
  · isplitl [G4]; · iexact G4
    isplitr; · iexact Hlev
    isplitl [C4]; · iexact C4
    isplitl [N5]; · iexact N5
    isplitl [HO]; · iexact HO
    isplitl [Hs4] <;> iassumption
  iintro ⟨HO, Hs5, Hacc, Hs4, ZS4, ZR4⟩
  iapply (wp_step P c _ 5 (by decide) (dev8_eq c) _ _ _ _ _ (fun a s => k0_pay52 (k0_pay51 a s)) (fun _ _ => shapeCast_self _ _) _ _ _ _ _ _ _ _ _ _ _ _ _) $$ [G5 C5 N6 HO Hs5 Hacc]
  · isplitl [G5]; · iexact G5
    isplitr; · iexact Hlev
    isplitl [C5]; · iexact C5
    isplitl [N6]; · iexact N6
    isplitl [HO]; · iexact HO
    isplitl [Hs5] <;> iassumption
  iintro ⟨HO, Hs6, Hacc, Hs5, ZS5, ZR5⟩
  iapply (wp_step P c _ 6 (by decide) (dev9_eq c) _ _ _ _ _ (k0_pay1) (fun _ _ => shapeCast_self _ _) _ _ _ _ _ _ _ _ _ _ _ _ _) $$ [G6 C6 N7 HO Hs6 Hacc]
  · isplitl [G6]; · iexact G6
    isplitr; · iexact Hlev
    isplitl [C6]; · iexact C6
    isplitl [N7]; · iexact N7
    isplitl [HO]; · iexact HO
    isplitl [Hs6] <;> iassumption
  iintro ⟨HO, Hs7, Hacc, Hs6, ZS6, ZR6⟩
  sl_exec
  ihave Hout := (Entails.of_eq (congrArg (bufPts c cc0_stg3_0) (out_written o (accV P c 7)))) $$ Ho
  imod (Rounds.cell_close ER (ringRd P) (Set.mem_univ (K (kBar c))) (fun h => h) (R := 1) (duties_later P (barCell c))) $$ [Hat] with Hzb
  · isplitr; · iexact HIb
    iexact Hat
  rw [wp_ret]; imodintro
  iapply Hk
  isplitl [HO]; · iexact HO
  isplitl [Hx Hwq Hwo Hout HK HV]
  · isplitl [Hx]; · iexact Hx
    isplitl [Hwq]; · iexact Hwq
    isplitl [Hwo]; · iexact Hwo
    isplitl [Hout]; · iexact Hout
    isplitl [HK] <;> iassumption
  isplitl [H0 H1 H2 Hacc]
  · isplitl [H0]; · iexists _; iexact H0
    isplitl [H1]; · iexists _; iexact H1
    isplitl [H2]; · iexists _; iexact H2
    iexists _; iexact Hacc
  isplitl [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6] <;> iassumption
  isplitl [Hzb]; · iexact Hzb
  isplitl [Hkv]; · iexact Hkv
  isplitl [ZS0 ZS1 ZS2 ZS3 ZS4 ZS5 ZS6]
  · isplitl [ZS0]; · iexact ZS0
    isplitl [ZS1]; · iexact ZS1
    isplitl [ZS2]; · iexact ZS2
    isplitl [ZS3]; · iexact ZS3
    isplitl [ZS4]; · iexact ZS4
    isplitl [ZS5]; · iexact ZS5
    iexact ZS6
  isplitl [ZR0]; · iexact ZR0
  isplitl [ZR1]; · iexact ZR1
  isplitl [ZR2]; · iexact ZR2
  isplitl [ZR3]; · iexact ZR3
  isplitl [ZR4]; · iexact ZR4
  isplitl [ZR5]; · iexact ZR5
  iexact ZR6

end Cert.RingAttn

end
-- ==== Proof.Data.lean ====
/-
  The launch's view of a device: what each window and each part of the kernel's own state holds before and after the body, and the
  body's obligation towards the launch.
-/
module

public import proofs.«01_k».proof.Proof.Body
public import proofs.«01_k».proof.Proof.Gen.KernelIdeal.Frame
public import Idealize.ShloMosaic.Lib.Ring

@[expose] public section

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-! ## What the windows hold -/

/-- The staged copies of `x`, `Wq` and `Wo`. -/
def xIn (c : Dev nD) : Buf (Elt F) ((c : Thread nD τ).loc cc0_stg0_0) := iblk m c 0 t0_0
def wqIn (c : Dev nD) : Buf (Elt F) ((c : Thread nD τ).loc cc0_stg1_0) := iblk m c 1 t0_0
def woIn (c : Dev nD) : Buf (Elt F) ((c : Thread nD τ).loc cc0_stg2_0) := iblk m c 2 t0_0

/-- Device `c`'s partial product, from its memory at launch. -/
def partOf (c : Dev nD) : FVec F S512x768 .f32 :=
  partV (attnV (xIn m c) (wqIn m c) (kvSlice c (V m c main_arg2)) (kvSlice c (V m c main_arg3))) (woIn m c)

/-- What device `c` writes to its result. -/
def outOf (c : Dev nD) : Buf (Elt F) ((c : Thread nD τ).loc cc0_stg3_0) := outV (accV (partOf m) c 7)

/-! ## The kernel's own state -/

omit [FloatOps F] in
theorem bufPts_eq (c : Dev nD) (b : Ref sig .tc) (f : Buf (Elt F) ((c : Thread nD τ).loc b)) :
    bufPts c b f = (((c : Thread nD τ).loc b) ↦{fullShare} f : sProp 𝕄) := by
  exact congrArg (fun I => ((c : Thread nD τ).loc b ↦[I]{fullShare} f : sProp 𝕄)) (View.set_whole b)

/-- The semaphores the kernel allots itself: seven for the sends, seven for the receives, one for the local copies. -/
def osem : Fin 7 ⊕ Fin 7 ⊕ Unit → SemLoc sig
  | .inl g => .dma (sendS g.val g.isLt)
  | .inr (.inl g) => .dma (recvS g.val g.isLt)
  | .inr (.inr _) => .dma kvS

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun g : Fin 7 => semVal (sendCell c g.val g.isLt) 0)
      ∗ (bigSep Finset.univ fun g : Fin 7 => semVal (recvCell c g.val g.isLt) 0) ∗ semVal ((c : Thread nD τ), SemLoc.dma kvS) 0) := by
  unfold Pipeline.ownSems0
  rw [bigSep_univ_sum, bigSep_univ_sum, bigSep_univ_of_subsingleton ()]
  rfl
omit [FloatOps F] in
/-- The barrier semaphore is the one semaphore that outlives the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The eight slots of a ring buffer. -/
def slots (c : Dev nD) (f : FVec F S8x512x768 .f32) : sProp 𝕄 :=
  iprop(slotPts c 0 (by decide) f ∗ slotPts c 1 (by decide) f ∗ slotPts c 2 (by decide) f ∗ slotPts c 3 (by decide) f
    ∗ slotPts c 4 (by decide) f ∗ slotPts c 5 (by decide) f ∗ slotPts c 6 (by decide) f ∗ slotPts c 7 (by decide) f)

/-- The elements of slot `g`, as elements of the ring buffer. -/
def slotSet (c : Dev nD) (g : Fin 8) : Finset (Idx ((c : Thread nD τ).loc cc0_scratch4)) := (slot g.val g.isLt).view.set
theorem slotSet_disjoint (c : Dev nD) (g g' : Fin 8) (h : g ≠ g') : Disjoint (slotSet c g) (slotSet c g') :=
  Finset.disjoint_left.mpr fun i hi hi' =>
    h (Fin.ext (((mem_slot g.val g.isLt i).1 hi).symm.trans ((mem_slot g'.val g'.isLt i).1 hi')))
theorem slotSet_cover (c : Dev nD) : Finset.univ.biUnion (slotSet c) = Finset.univ :=
  Finset.eq_univ_iff_forall.mpr fun i => Finset.mem_biUnion.mpr
    ⟨(i (0 : Fin 3) : Fin 8), Finset.mem_univ _, (mem_slot _ _ i).2 rfl⟩

omit [FloatOps F] in
/-- They are the buffer. -/
theorem slots_eq (c : Dev nD) (f : FVec F S8x512x768 .f32) :
    (((c : Thread nD τ).loc cc0_scratch4) ↦{fullShare} f : sProp 𝕄) = slots c f := by
  rw [Ring.pointsTo_blocks (slotSet c) (slotSet_disjoint c) (slotSet_cover c),
    bigSep_univ_eq_bigSepL [0, 1, 2, 3, 4, 5, 6, 7] (by decide) (by decide)]
  rfl

/-! ## Before and after the body -/

/-- What device `c`'s body starts from, the windows apart: its part of the ring's ghost state, its launch credit, the levels, the
    semaphore of the local copies, and the two arrays it copies its heads from; -/
def start (c : Dev nD) : sProp 𝕄 :=
  iprop((∃ K, ghost (partOf m) K c) ∗ credits c ∗ levAts L lv ∗ semVal ((c : Thread nD τ), SemLoc.dma kvS) 0
    ∗ (((c : Thread nD τ).loc main_arg2) ↦{fullShare} V m c main_arg2) ∗ (((c : Thread nD τ).loc main_arg3) ↦{fullShare} V m c main_arg3))
/-- and the arrays and the barrier semaphore as it leaves them. -/
def done (c : Dev nD) : sProp 𝕄 :=
  iprop(((((c : Thread nD τ).loc main_arg2) ↦{fullShare} V m c main_arg2) ∗ (((c : Thread nD τ).loc main_arg3) ↦{fullShare} V m c main_arg3))
    ∗ unscopedSems0 c)

def Φ₀ (c : Dev nD) : sProp 𝕄 := iprop(start m c ∗ Pipeline.scopedRest (τ := τ) spec0 c)
def Φ₁ (c : Dev nD) : sProp 𝕄 := iprop(done m c ∗ Pipeline.ownSems0 (τ := τ) osem c ∗ Pipeline.scopedRest (τ := τ) spec0 c)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => woIn m c
    | ⟨3, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (xIn m c) ∗ stg c cc0_stg1_0 (wqIn m c) ∗ stg c cc0_stg2_0 (woIn m c) ∗ stg c cc0_stg3_0 (outOf m c))

theorem before_x (c : Dev nD) (d) : (dats m 0 c).before (0 : Fin 4) t0_0 d = xIn m c := by
  unfold Dat.before; rw [if_pos (fetch0_0 t0_0)]; rfl
theorem before_wq (c : Dev nD) (d) : (dats m 0 c).before (1 : Fin 4) t0_0 d = wqIn m c := by
  unfold Dat.before; rw [if_pos (fetch0_1 t0_0)]; rfl
theorem before_wo (c : Dev nD) (d) : (dats m 0 c).before (2 : Fin 4) t0_0 d = woIn m c := by
  unfold Dat.before; rw [if_pos (fetch0_2 t0_0)]; rfl

set_option maxRecDepth 4000 in
/-- `sound_body`, from what the launch gives to what it takes back. -/
theorem body_run (c : Dev nD) :
    bodyPre m c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _)
            (Memref.whole main_arg2) (Memref.isWhole_whole _) (Memref.whole main_arg3) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7)
      (fun _ => bodyPost m c) := by
  unfold bodyPre Φ₀ start
  rw [scopedRest0_eq]
  iintro ⟨⟨⟨⟨%K, Hg⟩, Hcr, Hlev, Hkv, HK, HV⟩, ⟨%f0, H0⟩, ⟨%f1, H1⟩, ⟨%f2, H2⟩, ⟨%f3, H3⟩, ⟨%f4, H4⟩⟩, HO,
    ⟨%d0, %g0, %h0, Hx⟩, ⟨%d1, %g1, %h1, Hwq⟩, ⟨%d2, %g2, %h2, Hwo⟩, ⟨%d3, %g3, %h3, Ho⟩⟩
  rw [before_x] at h0
  rw [before_wq] at h1
  rw [before_wo] at h2
  subst h0 h1 h2
  unfold Dat.owesAt Pipeline.owesWithin
  icases HO with ⟨%W, %hW, HO⟩
  rw [show (dats m 0 c).owed t0_0.castSucc = O₀ c from rfl]
  ihave Hs := (Entails.of_eq (slots_eq c f4)) $$ H4
  unfold slots
  icases Hs with ⟨S0, S1, S2, S3, S4, S5, S6, S7⟩
  iapply (sound_body (partOf m) K c W (fun _ => bodyPost m c) (xIn m c) (wqIn m c) (woIn m c) g3 (V m c main_arg2) (V m c main_arg3) rfl
    f0 f1 f2 f3 f4 (Transfers.BatchOf.intro _ _ _))
  simp only [bufPts_eq]
  isplitr []
  · isplitl [Hg]; · iexact Hg
    isplitl [Hcr]; · iexact Hcr
    isplitl [Hlev]; · iexact Hlev
    isplitl [HO]; · iexact HO
    isplitl [Hkv]; · iexact Hkv
    isplitl [Hx Hwq Hwo Ho HK HV]
    · isplitl [Hx]; · iexact Hx
      isplitl [Hwq]; · iexact Hwq
      isplitl [Hwo]; · iexact Hwo
      isplitl [Ho]; · iexact Ho
      isplitl [HK] <;> iassumption
    isplitl [H0 H1 H2 H3]
    · isplitl [H0]; · iexact H0
      isplitl [H1]; · iexact H1
      isplitl [H2] <;> iassumption
    isplitl [S0]; · iexact S0
    unfold barPay; rw [nxt_prv]
    isplitl [S1]; · iexists f4; iexact S1
    isplitl [S2]; · iexists f4; iexact S2
    isplitl [S3]; · iexists f4; iexact S3
    isplitl [S4]; · iexists f4; iexact S4
    isplitl [S5]; · iexists f4; iexact S5
    isplitl [S6]; · iexists f4; iexact S6
    iexists f4; iexact S7
  iintro ⟨⟨%W', HO⟩, ⟨Hx, Hwq, Hwo, Ho, HK, HV⟩, ⟨H0, H1, H2, H3⟩, Hs, Hb, Hkv, Hsnd, Hrcv⟩
  unfold bodyPost Φ₁ done Dat.owesAt Pipeline.owesWithin
  rw [scopedRest0_eq, ownSems0_eq, unscopedSems0_eq, show (dats m 0 c).owed t0_0.succ = 0 from rfl]
  isplitl [HK HV Hb Hsnd Hrcv Hkv H0 H1 H2 H3 Hs]
  · isplitl [HK HV Hb]
    · isplitl [HK HV]
      · isplitl [HK] <;> iassumption
      iexact Hb
    isplitl [Hsnd Hrcv Hkv]
    · isplitl [Hsnd]; · iexact Hsnd
      isplitl [Hrcv] <;> iassumption
    isplitl [H0]; · iexact H0
    isplitl [H1]; · iexact H1
    isplitl [H2]; · iexact H2
    isplitl [H3]; · iexact H3
    iexists (ringBuf (partOf m) c)
    iapply (Entails.of_eq (slots_eq c (ringBuf (partOf m) c)).symm)
    unfold slots; iexact Hs
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Ho

set_option maxRecDepth 20000 in
/-- The obligation of the launch, on every device. -/
theorem body_obligation (c : Dev nD) : BodyObligation (dats (F := F) m 0 c) (defs₀ (F := F)) 𝒱₀ () Set.univ := fun t => by
  rw [fin_N0 t, bigSep_W0, bigSep_W0]
  simp only [owns_whole]
  exact body_run m c

end Cert.RingAttn

end
-- ==== Proof.Deal.lean ====
/-
  How the launch deals the ring's ghost state: every cell's invariant is set up for all devices at once, each duty token goes to the
  device that pays the duty, and each device gets the credit for what its own waits consume.
-/
module

public import proofs.«01_k».proof.Proof.Data

@[expose] public section

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → FVec F S512x768 .f32)

/-! ## The cells and the tokens -/

theorem ownSemFacts : Pipeline.OwnSemFacts cfg0.spec osem := by decide +kernel

theorem recv_ne_bar (c d : Dev nD) (g : ℕ) (hg : g < 7) : recvCell c g hg ≠ barCell d := fun h => by cases congrArg Prod.snd h
theorem send_ne_bar (c d : Dev nD) (g : ℕ) (hg : g < 7) : sendCell c g hg ≠ barCell d := fun h => by cases congrArg Prod.snd h
/-- Two cells that are semaphores of the pool are the same only if they have the same number. -/
theorem dma_val {c d : Dev nD} {q q' : DmaSem sig} (h : (((c : Thread nD τ), SemLoc.dma q) : GSem nD τ sig) = ((d : Thread nD τ), .dma q')) :
    q.val = q'.val := by
  have := congrArg Prod.snd h; injection this with this; rw [this]
theorem cell_dev {g g' : GSem nD τ sig} (h : g = g') : g.1.1 = g'.1.1 := by rw [h]

theorem kcell_injective : Function.Injective kcell := by
  rintro ⟨c, k⟩ ⟨c', k'⟩ h
  have hc : c = c' := by
    have := cell_dev h
    rcases k with _ | g | g <;> rcases k' with _ | g' | g' <;> exact this
  subst hc
  rcases k with _ | g | g <;> rcases k' with _ | g' | g'
  · rfl
  · exact absurd h.symm (send_ne_bar _ _ _ _)
  · exact absurd h.symm (recv_ne_bar _ _ _ _)
  · exact absurd h (send_ne_bar _ _ _ _)
  · have := dma_val h; rw [sendS_val, sendS_val] at this
    rw [Fin.ext (show g.val = g'.val by omega)]
  · have := dma_val h; rw [sendS_val, recvS_val] at this; omega
  · exact absurd h (recv_ne_bar _ _ _ _)
  · have := dma_val h; rw [sendS_val, recvS_val] at this; omega
  · have := dma_val h; rw [recvS_val, recvS_val] at this
    rw [Fin.ext (show g.val = g'.val by omega)]

/-- A device's duties: the two units of its barrier, its seven sends, its seven receives. -/
def tokOf (cj : Dev nD × (Bool ⊕ Fin 7 ⊕ Fin 7)) : GSem nD τ sig × ℕ × Bool := match cj.2 with
  | .inl b => (kcell (kBar cj.1), 0, b)
  | .inr j => (kcell (cj.1, .inr j), 0, false)

theorem tokOf_injective : Function.Injective tokOf := by
  rintro ⟨c, j⟩ ⟨c', j'⟩ h
  rcases j with b | j <;> rcases j' with b' | j'
  · have h0 : kcell (kBar c) = kcell (kBar c') := congrArg Prod.fst h
    have h1 : c = c' := congrArg Prod.fst (kcell_injective h0)
    have h2 : b = b' := congrArg (fun x : GSem nD τ sig × ℕ × Bool => x.2.2) h
    rw [h1, h2]
  · have h0 : kcell (kBar c) = kcell (c', .inr j') := congrArg Prod.fst h
    exact (Sum.inl_ne_inr (congrArg Prod.snd (kcell_injective h0))).elim
  · have h0 : kcell (c, .inr j) = kcell (kBar c') := congrArg Prod.fst h
    exact (Sum.inr_ne_inl (congrArg Prod.snd (kcell_injective h0))).elim
  · have h1 : (c, Sum.inr j) = (c', Sum.inr j') := kcell_injective (congrArg Prod.fst h)
    have h2 : j = j' := Sum.inr_injective (congrArg Prod.snd h1)
    rw [show c = c' from congrArg Prod.fst h1, h2]

def ringCells : Finset (GSem nD τ sig) := Finset.univ.map ⟨kcell, kcell_injective⟩
def ringToks : Finset (GSem nD τ sig × ℕ × Bool) := Finset.univ.map ⟨tokOf, tokOf_injective⟩

/-- The ghost state at launch: the pipeline's, the ring's, and none for the local copies. -/
def u₀ : UU :=
  (initOf (Pipeline.cells cfgs cellOf_inj) (Pipeline.launchToks cfgs cellOf_inj), (initOf ringCells ringToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own duties, -/
def toks (c : Dev nD) : sProp 𝕄 := bigSep Finset.univ fun j => dutyTok ER (tokOf (c, j)).1 (tokOf (c, j)).2.1 (tokOf (c, j)).2.2
/-- its positions in its own cells, with the fact that they are at round 0, -/
def places (c : Dev nD) : sProp 𝕄 := bigSep Finset.univ fun k => iprop(atPos ER (kcell (c, k)) 0 ∅ 0 ∗ reached ER (kcell (c, k)) 0)
/-- and all that the launch gives it. -/
def G (c : Dev nD) : sProp 𝕄 :=
  iprop((bigSep Finset.univ fun k => roundState ER (ringRd P) (kcell (c, k)) 0) ∗ places (F := F) c ∗ toks (F := F) c)

/-- What the body starts from. -/
def G' (c : Dev nD) : sProp 𝕄 := iprop((∃ K, ghost P K c) ∗ semVal ((c : Thread nD τ), SemLoc.dma kvS) 0)

omit [FloatOps F] in
theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd P) ringCells ringToks) $$ HX with ⟨Hst, Hr, Hat, Htok⟩
  imodintro
  ihave Hst := (Entails.of_eq (hX fun g => roundState ER (ringRd P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

/-! ## The invariants -/

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k => semVal (kcell (c, k)) 0) ∗ semVal ((c : Thread nD τ), SemLoc.dma kvS) 0 : sProp 𝕄) := by
  have hk : (bigSep Finset.univ fun k => semVal (kcell (c, k)) 0 : sProp 𝕄) = iprop(semVal (barCell c) 0
      ∗ (bigSep Finset.univ fun g : Fin 7 => semVal (sendCell c g.val g.isLt) 0) ∗ bigSep Finset.univ fun g : Fin 7 => semVal (recvCell c g.val g.isLt) 0) := by
    rw [bigSep_univ_sum, bigSep_univ_sum, bigSep_univ_of_subsingleton ()]; rfl
  rw [ownSems0_eq, unscopedSems0_eq, hk]
  iintro ⟨⟨HS, HV, Hk⟩, HB⟩
  isplitr [Hk]
  · isplitl [HB]; · iexact HB
    isplitl [HS]; · iexact HS
    iexact HV
  iexact Hk

omit [FloatOps F] in
theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (ringRd P) κ (kcell (c, k))))
          ∗ places (F := F) c ∗ toks (F := F) c ∗ semVal ((c : Thread nD τ), SemLoc.dma kvS) 0) := by
  unfold G
  iintro ⟨Hos, Hus, Hst, Hat, Htok⟩
  ihave Hv := (sems0_eq (F := F) c) $$ [Hos Hus]
  · isplitl [Hos] <;> iassumption
  icases Hv with ⟨Hv, Hk⟩
  imod (show iprop((bigSep Finset.univ fun k => semVal (kcell (c, k)) 0) ∗ bigSep Finset.univ fun k => roundState ER (ringRd P) (kcell (c, k)) 0)
      ⊢ (|={Set.univ}=> bigSep Finset.univ fun k => iprop(∃ κ : ℕ, cellInv ER (ringRd P) κ (kcell (c, k))) : sProp 𝕄) from by
        rw [← bigSep_sep']
        exact (bigSep_mono fun k _ => (Rounds.body_intro ER (ringRd P) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The deal -/

/-- What every device may use: all invariants, and that every cell is at round 0. -/
def records (K : Dev nD × (Unit ⊕ Fin 7 ⊕ Fin 7) → ℕ) : sProp 𝕄 :=
  iprop((bigSep Finset.univ fun ck => cellInv ER (ringRd P) (K ck) (kcell ck)) ∗ bigSep Finset.univ fun ck => reached ER (kcell ck) 0)
omit [FloatOps F] in
instance records_persistent (K : Dev nD × (Unit ⊕ Fin 7 ⊕ Fin 7) → ℕ) : BI.Persistent (records P K) := by unfold records; infer_instance

omit [FloatOps F] in
theorem inv_at (K : Dev nD × (Unit ⊕ Fin 7 ⊕ Fin 7) → ℕ) (ck : Dev nD × (Unit ⊕ Fin 7 ⊕ Fin 7)) :
    records P K ⊢ cellInv ER (ringRd P) (K ck) (kcell ck) := by
  unfold records
  iintro ⟨#HI, -⟩
  iapply (show (bigSep Finset.univ fun ck => (cellInv ER (ringRd P) (K ck) (kcell ck) : sProp 𝕄)) ⊢ cellInv ER (ringRd P) (K ck) (kcell ck) from
    bigSep_elim (Finset.mem_univ ck))
  iexact HI
omit [FloatOps F] in
theorem reached_at (K : Dev nD × (Unit ⊕ Fin 7 ⊕ Fin 7) → ℕ) (ck : Dev nD × (Unit ⊕ Fin 7 ⊕ Fin 7)) :
    records P K ⊢ reached ER (kcell ck) 0 := by
  unfold records
  iintro ⟨-, #HR⟩
  iapply (show (bigSep Finset.univ fun ck => (reached ER (kcell ck) 0 : sProp 𝕄)) ⊢ reached ER (kcell ck) 0 from bigSep_elim (Finset.mem_univ ck))
  iexact HR

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What device `c` alone holds of step `g`: its positions, and the tokens of the duties its copy pays; -/
def stepOwn (c : Dev nD) (g : Fin 7) : sProp 𝕄 :=
  iprop((atPos ER (sendCell c g.val g.isLt) 0 ∅ 0 ∗ atPos ER (recvCell c g.val g.isLt) 0 ∅ 0)
    ∗ (dutyTok ER (sendCell c g.val g.isLt) 0 false ∗ dutyTok ER (recvCell (nxt c) g.val g.isLt) 0 false))
/-- and in all. -/
def devOwn (c : Dev nD) : sProp 𝕄 :=
  iprop((atPos ER (barCell c) 0 ∅ 0 ∗ dutyTok ER (barCell (nxt c)) 0 false ∗ dutyTok ER (barCell (prv c)) 0 true)
    ∗ bigSep Finset.univ fun g : Fin 7 => stepOwn (F := F) c g)

omit [FloatOps F] in
theorem step_intro (K : Dev nD × (Unit ⊕ Fin 7 ⊕ Fin 7) → ℕ) (c : Dev nD) (g : Fin 7) :
    iprop(records P K ∗ stepOwn (F := F) c g) ⊢ stepGhost P c g.val g.isLt (K (kSend c g)) (K (kRecv c g)) (K (kRecv (nxt c) g)) := by
  unfold stepOwn stepGhost
  iintro ⟨#HR, Ha, Ht⟩
  isplitr
  · isplitr; · iapply (inv_at P K (kSend c g)); iexact HR
    isplitr; · iapply (inv_at P K (kRecv c g)); iexact HR
    isplitr; · iapply (inv_at P K (kRecv (nxt c) g)); iexact HR
    isplitr; · iapply (reached_at P K (kSend c g)); iexact HR
    iapply (reached_at P K (kRecv (nxt c) g)); iexact HR
  isplitl [Ha] <;> iassumption

omit [FloatOps F] in
theorem ghost_intro (K : Dev nD × (Unit ⊕ Fin 7 ⊕ Fin 7) → ℕ) (c : Dev nD) : iprop(records P K ∗ devOwn (F := F) c) ⊢ ghost P K c := by
  unfold devOwn ghost
  iintro ⟨#HR, Hb, Hs⟩
  isplitr
  · isplitr; · iapply (inv_at P K (kBar c)); iexact HR
    isplitr; · iapply (inv_at P K (kBar (nxt c))); iexact HR
    isplitr; · iapply (inv_at P K (kBar (prv c))); iexact HR
    isplitr; · iapply (reached_at P K (kBar (nxt c))); iexact HR
    iapply (reached_at P K (kBar (prv c))); iexact HR
  isplitl [Hb]; · iexact Hb
  iapply (bigSep_beside (R := records P K) fun g _ => step_intro P K c g)
  isplitr; · iexact HR
  iexact Hs

omit [FloatOps F] in
theorem toks_eq (c : Dev nD) : toks (F := F) c
    = iprop((dutyTok ER (barCell c) 0 false ∗ dutyTok ER (barCell c) 0 true)
      ∗ (bigSep Finset.univ fun g : Fin 7 => dutyTok ER (sendCell c g.val g.isLt) 0 false)
      ∗ (bigSep Finset.univ fun g : Fin 7 => dutyTok ER (recvCell c g.val g.isLt) 0 false)) := by
  unfold toks
  rw [bigSep_univ_sum, bigSep_univ_sum, bigSep_univ_eq_bigSepL [false, true] (by decide) (by decide)]
  rfl

omit [FloatOps F] in
/-- The positions, cell by cell. -/
theorem atPos_eq (c : Dev nD) : (bigSep Finset.univ fun k => atPos ER (kcell (c, k)) 0 ∅ 0 : sProp 𝕄)
    = iprop(atPos ER (barCell c) 0 ∅ 0 ∗ (bigSep Finset.univ fun g : Fin 7 => atPos ER (sendCell c g.val g.isLt) 0 ∅ 0)
      ∗ (bigSep Finset.univ fun g : Fin 7 => atPos ER (recvCell c g.val g.isLt) 0 ∅ 0)) := by
  rw [bigSep_univ_sum, bigSep_univ_sum, bigSep_univ_of_subsingleton ()]
  rfl

omit [FloatOps F] in
/-- The tokens dealt around the ring: a barrier's first to the device before, its second to the next one, a receive's to the device before. -/
theorem around :
    iprop((bigSep Finset.univ fun c : Dev nD => (bigSep Finset.univ fun k => atPos ER (kcell (c, k)) 0 ∅ 0 : sProp 𝕄)) ∗ bigSep Finset.univ fun c : Dev nD => toks (F := F) c)
      ⊢ bigSep Finset.univ fun c : Dev nD => devOwn (F := F) c := by
  unfold devOwn stepOwn
  simp only [toks_eq, atPos_eq, bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun g : Fin 7 => dutyTok ER (recvCell c g.val g.isLt) 0 false : sProp 𝕄))]
  iintro ⟨⟨A, AS, AR⟩, ⟨TF, TT⟩, TS, TR⟩
  isplitl [A TF TT]
  · isplitl [A]; · iexact A
    isplitl [TF]; · iexact TF
    iexact TT
  isplitl [AS AR]
  · isplitl [AS] <;> iassumption
  isplitl [TS]; · iexact TS
  iexact TR

omit [FloatOps F] in
theorem regroup :
    (bigSep Finset.univ fun c : Dev nD => iprop((bigSep Finset.univ fun k => iprop(∃ κ : ℕ, cellInv ER (ringRd P) κ (kcell (c, k))))
          ∗ places (F := F) c ∗ toks (F := F) c ∗ semVal ((c : Thread nD τ), SemLoc.dma kvS) 0) : sProp 𝕄)
      ⊢ bigSep Finset.univ (G' P) := by
  unfold places
  rw [bigSep_sep', bigSep_sep', bigSep_sep', ← bigSep_univ_prod (fun ck : Dev nD × (Unit ⊕ Fin 7 ⊕ Fin 7) => iprop(∃ κ : ℕ, cellInv ER (ringRd P) κ (kcell ck))),
    bigSep_congr (s := Finset.univ) (fun (c : Dev nD) _ => bigSep_sep' Finset.univ (fun k : Unit ⊕ Fin 7 ⊕ Fin 7 => (atPos ER (kcell (c, k)) 0 ∅ 0 : sProp 𝕄)) (fun k => reached ER (kcell (c, k)) 0)),
    bigSep_sep', ← bigSep_univ_prod (fun ck : Dev nD × (Unit ⊕ Fin 7 ⊕ Fin 7) => (reached ER (kcell ck) 0 : sProp 𝕄))]
  iintro ⟨HI, ⟨Hat, #HR⟩, Htok, Hk⟩
  ihave HK := (BI.bigSep_exists_pi Finset.univ (fun (ck : Dev nD × (Unit ⊕ Fin 7 ⊕ Fin 7)) (κ : ℕ) => (cellInv ER (ringRd P) κ (kcell ck) : sProp 𝕄))) $$ HI
  icases HK with ⟨%K, #HI⟩
  ihave Hown := (around (F := F)) $$ [Hat Htok]
  · isplitl [Hat] <;> iassumption
  unfold G'
  rw [bigSep_sep']
  isplitr [Hk]
  · iapply (bigSep_beside (R := records P K) (Φ := fun c => devOwn (F := F) c) fun c _ => (ghost_intro P K c).trans (exists_intro (Φ := fun K => ghost P K c) K))
    isplitr
    · unfold records; isplitl; · iexact HI
      iexact HR
    iexact Hown
  iexact Hk

omit [FloatOps F] in
/-- The step for all devices at once. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## The launch credit -/

theorem bar_eq_iff {a b : Dev nD} : barCell a = barCell b ↔ a = b := ⟨cell_dev, fun h => h ▸ rfl⟩
theorem recv_eq_iff {a b : Dev nD} {g g' : ℕ} {hg : g < 7} {hg' : g' < 7} : recvCell a g hg = recvCell b g' hg' ↔ a = b ∧ g = g' :=
  ⟨fun h => ⟨cell_dev h, by have := dma_val h; rw [recvS_val, recvS_val] at this; omega⟩, fun ⟨h, h'⟩ => by subst h h'; rfl⟩
theorem eq_nxt_iff {a b : Dev nD} : a = nxt b ↔ b = prv a :=
  ⟨fun h => by rw [h, prv_nxt], fun h => by rw [h, nxt_prv]⟩
theorem eq_prv_iff {a b : Dev nD} : a = prv b ↔ b = nxt a :=
  ⟨fun h => by rw [h, nxt_prv], fun h => by rw [h, prv_nxt]⟩

theorem R_bar (d c : Dev nD) (n : ℕ) : R d n (barCell c) () = 0 := by
  induction n with
  | zero => rfl
  | succ n ih =>
    unfold R
    rw [Pi.add_apply, Finsupp.add_apply, ih, tallyAt_apply, if_neg fun h => recv_ne_bar _ _ _ _ h.1.symm]

theorem R_recv (d c : Dev nD) (g : ℕ) (hg : g < 7) (n : ℕ) (hn : n ≤ 7) :
    R d n (recvCell c g hg) () = if d = prv c ∧ 7 ≤ g + n then N else 0 := by
  induction n with
  | zero => rw [if_neg fun h => by omega]; rfl
  | succ n ih =>
    unfold R
    rw [Pi.add_apply, Finsupp.add_apply, ih (by omega), tallyAt_apply]
    simp only [recv_eq_iff, eq_nxt_iff (a := c) (b := d), and_true]
    by_cases hd : d = prv c
    · by_cases h : 7 ≤ g + n
      · rw [if_pos ⟨hd, h⟩, if_neg fun h' => by omega, if_pos ⟨hd, by omega⟩, Nat.add_zero]
      · by_cases h' : g = 6 - n
        · rw [if_neg fun h'' => h h''.2, if_pos ⟨hd, h'⟩, if_pos ⟨hd, by omega⟩, Nat.zero_add]
        · rw [if_neg fun h'' => h h''.2, if_neg fun h'' => h' h''.2, if_neg fun h'' => h' (by omega)]
    · rw [if_neg fun h => hd h.1, if_neg fun h => hd h.1, if_neg fun h => hd h.1]

theorem owed_bar (d c : Dev nD) : O₀ d (barCell c) () = (if d = prv c then 1 else 0) + (if d = nxt c then 1 else 0) := by
  unfold O₀ O₁
  generalize hR : R d 7 = r
  have hr : r (barCell c) () = 0 := by rw [← hR]; exact R_bar d c 7
  rw [Pi.add_apply, Finsupp.add_apply, Pi.add_apply, Finsupp.add_apply, hr, Nat.zero_add, tallyAt_apply, tallyAt_apply]
  simp only [bar_eq_iff, eq_nxt_iff (a := c) (b := d), eq_prv_iff (a := c) (b := d), and_true]

theorem owed_recv (d c : Dev nD) (g : ℕ) (hg : g < 7) : O₀ d (recvCell c g hg) () = if d = prv c then N else 0 := by
  unfold O₀ O₁
  generalize hR : R d 7 = r
  have hr : r (recvCell c g hg) () = if d = prv c then N else 0 := by
    rw [← hR, R_recv d c g hg 7 (le_refl 7)]
    simp only [Nat.le_add_left, and_true]
  rw [Pi.add_apply, Finsupp.add_apply, Pi.add_apply, Finsupp.add_apply, tallyAt_apply, tallyAt_apply,
    if_neg fun h => recv_ne_bar _ _ _ _ h.1, if_neg fun h => recv_ne_bar _ _ _ _ h.1, Nat.add_zero]; exact hr

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (g : ℕ) (hg : g < 7) :
    tallyOn (recvCell c g hg) (launchCredit (Pipeline.owing O₀) 0 (recvCell c g hg)) = (tallyAt (recvCell c g hg) () N : CellTallies nD τ sig Unit) := by
  unfold tallyAt; refine congrArg _ (Finsupp.ext fun u => ?_); cases u
  rw [Pipeline.launchCredit_owing, Finsupp.single_eq_same, Finset.sum_congr rfl fun d _ => owed_recv d c g hg,
    Finset.sum_ite_eq' Finset.univ (prv c) fun _ => N, if_pos (Finset.mem_univ _)]

/-- The receive semaphores, numbered. -/
def recvEmb : Fin 7 ↪ SemLoc sig :=
  ⟨fun g => .dma (recvS g.val g.isLt), fun a b h => by
    injection h with h
    have := congrArg Fin.val h; rw [recvS_val, recvS_val] at this
    exact Fin.ext (by omega)⟩

omit [FloatOps F] in
theorem creds (c : Dev nD) : (Pipeline.launchCred O₀ c : sProp 𝕄) ⊢ credits (F := F) c := by
  unfold Pipeline.launchCred credits
  rw [bigSep_univ_at _ (SemLoc.reg barS), launch_bar]
  refine sep_mono_right ?_
  refine (bigSep_subset (t := Finset.univ.map recvEmb) fun s hs => ?_).trans ?_
  · obtain ⟨g, -, rfl⟩ := Finset.mem_map.1 hs
    exact Finset.mem_erase.mpr ⟨(fun h => by cases h), Finset.mem_univ _⟩
  · rw [bigSep_map]
    exact bigSep_mono fun g _ => Entails.of_eq (congrArg cred (launch_recv c g.val g.isLt))

end Cert.RingAttn

end
-- ==== Proof.Launch.lean ====
/-
  The launch of the ring: the sides of the launch theorem, and the run of `main` on all eight devices, for any float values.
-/
module

public import proofs.«01_k».proof.Proof.Deal
public import Idealize.ShloMosaic.Lib.Pipeline.ValueKit
public import Idealize.ShloMosaic.Lib.Pipeline.CollectiveSegs

@[expose] public section

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]
local notation "𝕄" => MT nD τ sig Unit (Elt F) ℕ UU ℕ

variable (m : (ℓ : Loc nD τ sig) → Buf (Elt F) ℓ) (ρ : Dev nD → PrngReg)

theorem share_eq (c : Dev nD) (w : Fin 4) : (dats m 0 c).share w = fullShare := by unfold Dat.share; split <;> rfl

/-- The two arrays that no window stages: the keys and the values. -/
def heldRefs : Fin 2 → Ref sig .tc
  | ⟨0, _⟩ => main_arg2
  | ⟨1, _⟩ => main_arg3

omit [FloatOps F] in
theorem held_eq (c : Dev nD) : (bigSep Finset.univ fun i => ((c : Thread nD τ).loc (heldRefs i)) ↦{fullShare} V m c (heldRefs i) : sProp 𝕄)
    = iprop((((c : Thread nD τ).loc main_arg2) ↦{fullShare} V m c main_arg2) ∗ (((c : Thread nD τ).loc main_arg3) ↦{fullShare} V m c main_arg3)) := by
  rw [bigSep_univ_eq_bigSepL [0, 1] (by decide) (by decide)]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (partOf m) c)
      ⊢ |={Set.univ}=> iprop(start m c ∗ emp : sProp 𝕄) := by
  rw [show (Pipeline.unscopedRestP Pipeline.Prefetch.none cfg0.spec c (fun b => m ((c : Thread nD τ).loc b)) : sProp 𝕄)
      = iprop((((c : Thread nD τ).loc main_arg2) ↦{fullShare} V m c main_arg2) ∗ (((c : Thread nD τ).loc main_arg3) ↦{fullShare} V m c main_arg3)) from
    (Pipeline.unscopedRestP_eq_of_list cfg0.spec c Pipeline.Prefetch.none _ [main_arg2, main_arg3] (by decide) (by decide)).trans rfl]
  iintro ⟨Hbuf, Hlev, Hcr, -, HG⟩
  ihave Hc := (creds (F := F) c) $$ Hcr
  imodintro
  unfold start G'
  icases HG with ⟨HG, Hk⟩
  isplitl
  · isplitl [HG]; · iexact HG
    isplitl [Hc]; · iexact Hc
    isplitl [Hlev]; · iexact Hlev
    isplitl [Hk]; · iexact Hk
    iexact Hbuf
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem waits (c : Dev nD) : (levAts L lv : sProp 𝕄) ⊢ Pipeline.cellsWaits cfgs (dats m) () 0 c :=
  Pipeline.cellsWaits_intro cfgs (dats m) () 0 c fun w s t =>
    mayWait_of c _ _ fun x u h => by
      rcases t with ⟨_ | _, ht⟩
      · obtain ⟨h1, h2⟩ := O₀_pos h
        exact ⟨h1, lt_of_lt_of_le (by fin_cases w <;> fin_cases s <;> decide) h2⟩
      · exact absurd h (lt_irrefl 0)

/-- What the run leaves on every device: the arguments as they were, the result. -/
def QC (s : MemSt nD τ sig (Elt F)) : Prop := ∀ c : Dev nD,
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v1) = outOf m c

/-- The result array is what the body left in its staging buffer. -/
theorem arrAt_out (c : Dev nD) : (dats m 0 c).arrAt (3 : Fin 4) cfg0.N = outOf m c :=
  (dats m 0 c).arrAt_eq_of_after_last (3 : Fin 4) t0_0 (by decide +kernel) (outOf m c) fun _ => rfl

set_option maxRecDepth 8000 in
/-- From any memory with zero counters, on eight devices and for any float values: every weakly fair execution of `main` ends, with
    each device's result computed, its arguments unchanged and every semaphore at zero. -/
theorem run_main : θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (partOf m)) (G' := G' (partOf m)) (u₀ := u₀)
    (hu₀ := by
      unfold u₀
      iintro Hu
      ihave H := (ownU_split _ _) $$ Hu
      icases H with ⟨HP, HX⟩
      imod (fund_ring (partOf m)) $$ HX with HG
      imodintro
      isplitl [HP] <;> iassumption)
    (hglob := glob (partOf m))
    (hA := fun _ _ => rfl) (hpf := fun _ k => k.elim0)
    (X := start m) (Y := done m) (Z := fun _ => iprop(emp))
    (hX := start_intro m ρ) (hin := phi0_intro m) (hout := fun _ => .rfl)
    (QY := fun c s => (∀ i ∈ (Finset.univ : Finset (Fin 2)), s.mem ((c : Thread nD τ).loc (heldRefs i)) = V m c (heldRefs i))
      ∧ ∀ sm : SemLoc sig, sm.isScoped .tc = false → s.sem ((c.tc : Thread nD τ), sm) = 0)
    (hY := fun c s' => by
      unfold done
      iintro ⟨⟨Hb, Hu⟩, -, HSI⟩
      ihave Hb := (Entails.of_eq (held_eq m c).symm) $$ Hb
      ihave H := (pointsTo_read_all Finset.univ (fun i => (c : Thread nD τ).loc (heldRefs i)) (fun i => V m c (heldRefs i)) s') $$ [Hb HSI]
      · isplitl [Hb] <;> iassumption
      icases H with ⟨%hb, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hb, hs⟩
      iexact HSI)
    (hQ := fun s h hs => ⟨fun c => ⟨⟨((h c).1 0).trans ((dats m 0 c).arrAt_in (0 : Fin 4) rfl _),
        ((h c).1 1).trans ((dats m 0 c).arrAt_in (1 : Fin 4) rfl _), (h c).2.2.1 0 (Finset.mem_univ _), (h c).2.2.1 1 (Finset.mem_univ _),
        ((h c).1 2).trans ((dats m 0 c).arrAt_in (2 : Fin 4) rfl _)⟩, ((h c).1 3).trans (arrAt_out m c)⟩,
      sem_eq_zero hs fun c => (h c).2.2.2⟩)

end Cert.RingAttn

end
-- ==== Proof.Heads.lean ====
/-
  One head's attention, in the extended reals.

  For one query row: its scores against every key, their maximum, the exponentials of the scores less that maximum, and the values
  weighted by these exponentials over the exponentials' sum. Both programs compute this for every head, batch entry and query row.
-/
module

public import Idealize.ShloMosaic.Lib.Pointwise
public import Idealize.ShloMosaic.PureOps.Ideal.Laws

@[expose] public section

noncomputable section

namespace Cert.RingAttn

open Idealize.ShloMosaic

/-- The score of a query row against key `j`: the dot product, scaled by one eighth. -/
def score (q : Fin 64 → EReal) (k : Fin 512 → Fin 64 → EReal) (j : Fin 512) : EReal :=
  (∑ d, q d * k j d) * Ideal.ofBits .f32 0x3E000000#32

/-- The largest score. -/
def top (q : Fin 64 → EReal) (k : Fin 512 → Fin 64 → EReal) : EReal :=
  Finset.univ.fold max (Ideal.ofBits .f32 0xFF800000#32) (score q k)

/-- Key `j`'s weight, before the division. -/
def weight (q : Fin 64 → EReal) (k : Fin 512 → Fin 64 → EReal) (j : Fin 512) : EReal :=
  Ideal.exp (score q k j - top q k)

/-- The attention of a query row, at head dimension `d`. -/
def headOut (q : Fin 64 → EReal) (k v : Fin 512 → Fin 64 → EReal) (d : Fin 64) : EReal :=
  Ideal.div (∑ j, weight q k j * v j d) (∑ j, weight q k j)

/-- The word of negative infinity denotes the least extended real, -/
theorem ofBits_negInf : Ideal.ofBits .f32 0xFF800000#32 = (⊥ : EReal) := by
  simp [Ideal.ofBits, Ideal.ieee]

/-- so the exponential of it less anything is zero. -/
theorem exp_negInf_sub (x : EReal) : Ideal.exp ((⊥ : EReal) - x) = 0 := by
  rw [sub_eq_add_neg, EReal.bot_add]; rfl

end Cert.RingAttn

end
-- ==== Proof.Tile.lean ====
/-
  A device's part of the attention and its partial product, in the extended reals: every element of the attention matrix is the
  attention of one query row, and the partial product is its product with the device's output weights.
-/
module

public import proofs.«01_k».proof.Proof.Device
public import proofs.«01_k».proof.Proof.Heads

@[expose] public section

noncomputable section

namespace Cert.RingAttn

open Cert.KernelIdeal Cert.KernelIdeal.Gen
open Idealize.ShloMosaic

/-! ## The three payloads -/

/-- One head's tile is the attention of its query rows. -/
theorem pay15_apply (q : FVec Ideal S256x64 .f32) (k v : FVec Ideal S1x512x1x64 .f32) (i : Fin 256) (d : Fin 64) :
    k0_pay15 (F := Ideal) q k v (ix2 i d)
      = headOut (fun d => q (ix2 i d)) (fun j d => k (ix4 0 j 0 d)) (fun j d => v (ix4 0 j 0 d)) d := by
  pointwise [k0_pay15]
  rfl

/-- The queries of one batch entry are a matrix product, -/
theorem pay4_apply (x : FVec Ideal S1x256x768 .f32) (w : FVec Ideal S768x512 .f32) (i : Fin 256) (n : Fin 512) :
    k0_pay4 (F := Ideal) x w (ix2 i n) = ∑ e : Fin 768, x (ix3 0 i e) * w (ix2 e n) := by
  pointwise [k0_pay4]

/-- and so is the partial product. -/
theorem pay42_apply (a : FVec Ideal S512x512 .f32) (w : FVec Ideal S512x768 .f32) (r : Fin 512) (n : Fin 768) :
    k0_pay42 (F := Ideal) a w (ix2 r n) = ∑ e : Fin 512, a (ix2 r e) * w (ix2 e n) := by
  pointwise [k0_pay42]

/-! ## The operands of one head -/

/-- A batch entry's block, element by element, -/
theorem xBlock_apply (x : FVec Ideal S2x256x768 .f32) (b : Fin 2) (z : Fin 1) (i : Fin 256) (e : Fin 768) :
    xBlock x b (ix3 z i e) = x (ix3 b i e) := by
  rw [ix3_eq_valueIdx b i e]; rfl

/-- a head's block of keys or values, -/
theorem kBlock_apply (k : FVec Ideal S2x512x8x64 .f32) (b : Fin 2) (h : Fin 8) (y z : Fin 1) (j : Fin 512) (d : Fin 64) :
    kBlock k b h (ix4 y j z d) = k (ix4 b j h d) := by
  rw [ix4_eq_valueIdx b j h d]; rfl

/-- and a head's columns of the queries. -/
theorem qSlice_apply (q : FVec Ideal S256x512 .f32) (h : Fin 8) (i : Fin 256) (d : Fin 64) :
    qSlice q h (ix2 i d) = q (ix2 i ⟨64 * h.val + d.val, by omega⟩) := by
  rw [ix2_eq_valueIdx i]; rfl

/-! ## The attention matrix and the partial product -/

/-- Row `256 b + i`, column `e` of the attention matrix: head `e / 64` of the device's eight, at dimension `e % 64`. -/
theorem attnV_apply (x : FVec Ideal S2x256x768 .f32) (wq : FVec Ideal S768x512 .f32) (k v : FVec Ideal S2x512x8x64 .f32)
    (b : Fin 2) (i : Fin 256) (r : Fin 512) (hr : r.val = 256 * b.val + i.val) (e : Fin 512) :
    attnV x wq k v (ix2 r e)
      = headOut (fun d => ∑ n : Fin 768, x (ix3 b i n) * wq (ix2 n ⟨64 * (e.val / 64) + d.val, by omega⟩))
          (fun j d => k (ix4 b j ⟨e.val / 64, by omega⟩ d)) (fun j d => v (ix4 b j ⟨e.val / 64, by omega⟩ d))
          ⟨e.val % 64, by omega⟩ := by
  have hb : (⟨r.val / 256, by omega⟩ : Fin 2) = b := Fin.ext (by show r.val / 256 = b.val; omega)
  have hi : (⟨r.val % 256, by omega⟩ : Fin 256) = i := Fin.ext (by show r.val % 256 = i.val; omega)
  show attnTile x wq k v ⟨r.val / 256, by omega⟩ ⟨e.val / 64, by omega⟩ (ValueIdx.ix2 ⟨r.val % 256, by omega⟩ ⟨e.val % 64, by omega⟩) = _
  rw [hb, hi, ← ix2_eq_valueIdx]
  unfold attnTile
  rw [pay15_apply]
  simp only [qSlice_apply, pay4_apply, xBlock_apply, kBlock_apply]

end Cert.RingAttn

end
-- ==== Proof.Shards.lean ====
/-
  What a device holds of the whole arrays: 512 columns of the query weights, 512 rows of the output weights, and of the keys and
  values, which it holds whole, the eight heads it reads.
-/
module

public import proofs.«01_k».proof.Proof.Data
public import Idealize.ShloMosaic.Lib.Pointwise
public import Idealize.ShloMosaic.Lib.Layout

@[expose] public section

noncomputable section

namespace Cert.RingAttn

open Cert.KernelIdeal Cert.KernelIdeal.Gen
open Idealize.ShloMosaic Idealize.ShloMosaic.TcCoe

section

variable {F : FTy → Type} [FloatOps F] (m : (ℓ : Loc nD τ sig) → Buf (Elt F) ℓ) (c : Dev nD)

/-- The staged activations are the argument, -/
theorem xIn_eq : xIn m c = m ((c : Thread nD τ).loc main_arg0) := by
  funext i
  refine congrArg (m ((c : Thread nD τ).loc main_arg0)) (funext fun a => Fin.ext ?_)
  match a with
  | ⟨0, _⟩ => show 0 + 1 * _ = _; omega
  | ⟨1, _⟩ => show 0 + 1 * _ = _; omega
  | ⟨2, _⟩ => show 0 + 1 * _ = _; omega
/-- so are the staged query weights -/
theorem wqIn_eq : wqIn m c = m ((c : Thread nD τ).loc main_arg1) := by
  funext i
  refine congrArg (m ((c : Thread nD τ).loc main_arg1)) (funext fun a => Fin.ext ?_)
  match a with
  | ⟨0, _⟩ => show 0 + 1 * _ = _; omega
  | ⟨1, _⟩ => show 0 + 1 * _ = _; omega
/-- and the staged output weights. -/
theorem woIn_eq : woIn m c = m ((c : Thread nD τ).loc main_arg4) := by
  funext i
  refine congrArg (m ((c : Thread nD τ).loc main_arg4)) (funext fun a => Fin.ext ?_)
  match a with
  | ⟨0, _⟩ => show 0 + 1 * _ = _; omega
  | ⟨1, _⟩ => show 0 + 1 * _ = _; omega

end

/-- Column `n` of device `c`'s query weights is column `512 c + n` of the whole. -/
theorem wq_shard (w : FVec Ideal ⟨2, ![768, 4096]⟩ .f32) (c : Fin 8) (e : Fin 768) (n : Fin 512) :
    Layout.block ⟨2, ![768, 512]⟩ ⟨2, ![768, 4096]⟩ 1 8 c w (by decide) (ix2 e n) = w (ix2 e ⟨c.val * 512 + n.val, by omega⟩) := by
  refine congrArg w (funext fun a => Fin.ext ?_)
  match a with
  | ⟨0, _⟩ => rfl
  | ⟨1, _⟩ => rfl

/-- Row `n` of device `c`'s output weights is row `512 c + n` of the whole. -/
theorem wo_shard (w : FVec Ideal ⟨2, ![4096, 768]⟩ .f32) (c : Fin 8) (n : Fin 512) (e : Fin 768) :
    Layout.block ⟨2, ![512, 768]⟩ ⟨2, ![4096, 768]⟩ 0 8 c w (by decide) (ix2 n e) = w (ix2 ⟨c.val * 512 + n.val, by omega⟩ e) := by
  refine congrArg w (funext fun a => Fin.ext ?_)
  match a with
  | ⟨0, _⟩ => rfl
  | ⟨1, _⟩ => rfl

end Cert.RingAttn

end
-- ==== Proof.Total.lean ====
/-
  The running sum after the seven steps of the ring, in the extended reals: the partial products of all eight devices, each once.
-/
module

public import proofs.«01_k».proof.Proof.Step
public import Idealize.ShloMosaic.Lib.Pointwise

@[expose] public section

noncomputable section

namespace Cert.RingAttn

open Cert.KernelIdeal
open Idealize.ShloMosaic

/-- After `n` steps the sum is that of the device itself and the `n` devices before it. -/
theorem accV_sum (P : Dev nD → FVec Ideal S512x768 .f32) (c : Dev nD) (n : ℕ) (i : S512x768.Idx) :
    accV P c n i = ∑ g ∈ Finset.range (n + 1), P (back c g) i := by
  induction n with
  | zero => rw [Finset.sum_range_one, back_zero]; rfl
  | succ n ih => rw [Finset.sum_range_succ, ← ih]; rfl

/-- Counting back from a device meets every device once. -/
theorem back_bijective (c : Dev nD) : Function.Bijective (fun g : Fin 8 => back c g.val) := by
  revert c; decide

/-- So after seven steps it is the sum over all devices, whichever device it is. -/
theorem accV_total (P : Dev nD → FVec Ideal S512x768 .f32) (c : Dev nD) (i : S512x768.Idx) :
    accV P c 7 i = ∑ d : Fin 8, P d i := by
  rw [accV_sum, Finset.sum_range]
  exact (back_bijective c).sum_comp fun d => P d i

end Cert.RingAttn

end
-- ==== Proof.Reference.lean ====
/-
  The reference's result, in the extended reals: its composed term cut into stages, and each stage read at an index.

  The reference goes over the keys in blocks and rescales what it has accumulated by `exp (m - m_new)`. There is one block, so the
  running maximum before it is negative infinity, the factor is zero, and the accumulated zeros drop out.
-/
module

public import proofs.«01_k».proof.Proof.Gen.ReferenceIdeal.Run
public import proofs.«01_k».proof.Proof.Heads
public import Idealize.ShloMosaic.Lib.KernelVsHost

@[expose] public section

noncomputable section

namespace Cert.RingAttn

open Cert.ReferenceIdeal Cert.ReferenceIdeal.Gen
open Idealize.ShloMosaic Idealize.ShloMosaic.TcCoe

/-- The scaled scores. -/
def refScores (q : FVec Ideal S2x256x64x64 .f32) (k : FVec Ideal S2x512x64x64 .f32) : FVec Ideal S2x64x256x512 .f32 :=
  mulf (Host.dotGeneral dot_S2x256x64x64_S2x512x64x64_S2x64x256x512_3_3_1_1_02_02 none q k)
    (broadcastInDim S2x64x256x512 ![] bcast_S_S2x64x256x512 (constant S_ .f32 0x3E000000#32))

/-- Each row's largest score. -/
def refMax (s : FVec Ideal S2x64x256x512 .f32) : FVec Ideal S2x64x256 .f32 :=
  Host.reduce FloatOps.maximumf s (constant S_ .f32 0xFF800000#32) reducesTo_S2x64x256x512_S2x64x256_d3 h_S_

/-- The running maximum after the one block of keys. -/
def refTop (r : FVec Ideal S2x64x256 .f32) : FVec Ideal S2x64x256x1 .f32 :=
  maximumf (broadcastInDim S2x64x256x1 ![] bcast_S_S2x64x256x1 (constant S_ .f32 0xFF800000#32))
    (broadcastInDim S2x64x256x1 ![0, 1, 2] bcast_S2x64x256_S2x64x256x1_0_1_2 r)

/-- The factor by which what was accumulated before is rescaled. -/
def refAlpha (t : FVec Ideal S2x64x256x1 .f32) : FVec Ideal S2x64x256x1 .f32 :=
  Host.exp (subf (broadcastInDim S2x64x256x1 ![] bcast_S_S2x64x256x1 (constant S_ .f32 0xFF800000#32)) t)

/-- The weights. -/
def refWeights (s : FVec Ideal S2x64x256x512 .f32) (t : FVec Ideal S2x64x256x1 .f32) : FVec Ideal S2x64x256x512 .f32 :=
  Host.exp (subf s (broadcastInDim S2x64x256x512 ![0, 1, 2, 3] bcast_S2x64x256x1_S2x64x256x512_0_1_2_3 t))

/-- The weights' sum, with what was accumulated before. -/
def refDenom (a : FVec Ideal S2x64x256x1 .f32) (p : FVec Ideal S2x64x256x512 .f32) : FVec Ideal S2x64x256x1 .f32 :=
  addf (mulf (broadcastInDim S2x64x256x1 ![] bcast_S_S2x64x256x1 (constant S_ .f32 0x00000000#32)) a)
    (broadcastInDim S2x64x256x1 ![0, 1, 2] bcast_S2x64x256_S2x64x256x1_0_1_2
      (Host.reduceAdd p (constant S_ .f32 0x00000000#32) reducesTo_S2x64x256x512_S2x64x256_d3 h_S_))

/-- The weighted values, with what was accumulated before. -/
def refNumer (a : FVec Ideal S2x64x256x1 .f32) (p : FVec Ideal S2x64x256x512 .f32) (v : FVec Ideal S2x512x64x64 .f32) :
    FVec Ideal S2x256x64x64 .f32 :=
  addf (mulf (broadcastInDim S2x256x64x64 ![] bcast_S_S2x256x64x64 (constant S_ .f32 0x00000000#32))
      (broadcastInDim S2x256x64x64 ![0, 1, 2, 3] bcast_S2x256x64x1_S2x256x64x64_0_1_2_3
        (transpose S2x256x64x1 [0, 2, 1, 3] a transposes_S2x64x256x1_S2x256x64x1_0_2_1_3)))
    (transpose S2x256x64x64 [0, 3, 1, 2]
      (Host.dotGeneral dot_S2x512x64x64_S2x64x256x512_S2x64x64x256_1_3_3_2_02_01 none v p)
      transposes_S2x64x64x256_S2x256x64x64_0_3_1_2)

/-- The quotient: every head's attention. -/
def refQuot (n : FVec Ideal S2x256x64x64 .f32) (l : FVec Ideal S2x64x256x1 .f32) : FVec Ideal S2x256x64x64 .f32 :=
  Host.divf n (broadcastInDim S2x256x64x64 ![0, 1, 2, 3] bcast_S2x256x64x1_S2x256x64x64_0_1_2_3
    (transpose S2x256x64x1 [0, 2, 1, 3] l transposes_S2x64x256x1_S2x256x64x1_0_2_1_3))

/-- Every head's attention, from queries, keys and values. -/
def refHeads (q : FVec Ideal S2x256x64x64 .f32) (k v : FVec Ideal S2x512x64x64 .f32) : FVec Ideal S2x256x64x64 .f32 :=
  refQuot
    (refNumer (refAlpha (refTop (refMax (refScores q k)))) (refWeights (refScores q k) (refTop (refMax (refScores q k)))) v)
    (refDenom (refAlpha (refTop (refMax (refScores q k)))) (refWeights (refScores q k) (refTop (refMax (refScores q k)))))

/-- The queries. -/
def refQ (x : FVec Ideal S2x256x768 .f32) (wq : FVec Ideal S768x4096 .f32) : FVec Ideal S2x256x64x64 .f32 :=
  shapeCast S2x256x64x64 (Host.dotGeneral dot_S2x256x768_S768x4096_S2x256x4096_2_0_01_1_n_n none x wq) shapeCasts_S2x256x4096_S2x256x64x64

/-- The output projection. -/
def refOut (o : FVec Ideal S2x256x64x64 .f32) (wo : FVec Ideal S4096x768 .f32) : FVec Ideal S2x256x768 .f32 :=
  Host.dotGeneral dot_S2x256x4096_S4096x768_S2x256x768_2_0_01_1_n_n none (shapeCast S2x256x4096 o shapeCasts_S2x256x64x64_S2x256x4096) wo

/-- The reference's result is these stages, one after the other. -/
theorem res_eq (m : (ℓ : Loc nD τ sig) → Buf (Elt Ideal) ℓ) (c : Dev nD) :
    Value.res_out0 m c
      = refOut (refHeads (refQ (m ((c.tc : Thread nD τ).loc main_arg0)) (m ((c.tc : Thread nD τ).loc main_arg1)))
          (m ((c.tc : Thread nD τ).loc main_arg2)) (m ((c.tc : Thread nD τ).loc main_arg3)))
        (m ((c.tc : Thread nD τ).loc main_arg4)) := by
  unfold Value.res_out0 Value.res_main_v30
  rfl

/-- A scaled score, from the query row and the keys. -/
theorem refScores_apply (q : FVec Ideal S2x256x64x64 .f32) (k : FVec Ideal S2x512x64x64 .f32)
    (b : Fin 2) (h : Fin 64) (i : Fin 256) (j : Fin 512) :
    refScores q k (ix4 b h i j) = score (fun d => q (ix4 b i h d)) (fun j d => k (ix4 b j h d)) j := by
  pointwise [refScores]
  rfl

/-- Row `(b, h, i)` with key `j` inserted in the last place. -/
theorem lift_keys (hr : S2x64x256x512.Reduces [3] S2x64x256) (b : Fin 2) (h : Fin 64) (i : Fin 256) (j : Fin 512) :
    hr.lift (ix3 b h i) j = ix4 b h i j := by
  funext a
  match a with
  | ⟨0, _⟩ => rfl
  | ⟨1, _⟩ => rfl
  | ⟨2, _⟩ => rfl
  | ⟨3, _⟩ => rfl

/-- The largest score of a row. -/
theorem refMax_apply (s : FVec Ideal S2x64x256x512 .f32) (b : Fin 2) (h : Fin 64) (i : Fin 256) :
    refMax s (ix3 b h i) = Finset.univ.fold max (Ideal.ofBits .f32 0xFF800000#32) (fun j : Fin 512 => s (ix4 b h i j)) := by
  have hr : S2x64x256x512.Reduces [3] S2x64x256 := by decide
  refine (congrFun (hostReduce_maximumf_eq_multiReduction s 0xFF800000#32 _ _ hr (.inl rfl) rfl) _).trans
    ((Ideal.multiReduction_maximumf_single s 0xFF800000#32 hr (.inl rfl) rfl _).trans ?_)
  exact congrArg (Finset.fold max (Ideal.ofBits .f32 0xFF800000#32) · Finset.univ)
    (funext fun j => congrArg s (lift_keys hr b h i j))

/-- The running maximum was negative infinity: the new one is the block's. -/
theorem refTop_apply (r : FVec Ideal S2x64x256 .f32) (b : Fin 2) (h : Fin 64) (i : Fin 256) (z : Fin 1) :
    refTop r (ix4 b h i z) = r (ix3 b h i) := by
  pointwise [refTop]
  rw [ofBits_negInf]
  exact max_eq_right bot_le

/-- The factor is zero. -/
theorem refAlpha_apply (t : FVec Ideal S2x64x256x1 .f32) (b : Fin 2) (h : Fin 64) (i : Fin 256) (z : Fin 1) :
    refAlpha t (ix4 b h i z) = 0 := by
  pointwise [refAlpha]
  rw [ofBits_negInf, exp_negInf_sub]

/-- A weight, from the score and the maximum. -/
theorem refWeights_apply (s : FVec Ideal S2x64x256x512 .f32) (t : FVec Ideal S2x64x256x1 .f32)
    (b : Fin 2) (h : Fin 64) (i : Fin 256) (j : Fin 512) :
    refWeights s t (ix4 b h i j) = Ideal.exp (s (ix4 b h i j) - t (ix4 b h i 0)) := by
  pointwise [refWeights]

/-- The weights' sum. -/
theorem refDenom_apply (a : FVec Ideal S2x64x256x1 .f32) (p : FVec Ideal S2x64x256x512 .f32)
    (b : Fin 2) (h : Fin 64) (i : Fin 256) (z : Fin 1) :
    refDenom a p (ix4 b h i z) = ∑ j : Fin 512, p (ix4 b h i j) := by
  pointwise [refDenom]
  rw [zero_mul, zero_add]

/-- The weighted values. -/
theorem refNumer_apply (a : FVec Ideal S2x64x256x1 .f32) (p : FVec Ideal S2x64x256x512 .f32) (v : FVec Ideal S2x512x64x64 .f32)
    (b : Fin 2) (h : Fin 64) (i : Fin 256) (d : Fin 64) :
    refNumer a p v (ix4 b i h d) = ∑ j : Fin 512, p (ix4 b h i j) * v (ix4 b j h d) := by
  pointwise [refNumer]
  rw [zero_mul, zero_add]
  exact Finset.sum_congr rfl fun j _ => mul_comm _ _

/-- The quotient, element by element. -/
theorem refQuot_apply (n : FVec Ideal S2x256x64x64 .f32) (l : FVec Ideal S2x64x256x1 .f32)
    (b : Fin 2) (h : Fin 64) (i : Fin 256) (d : Fin 64) :
    refQuot n l (ix4 b i h d) = Ideal.div (n (ix4 b i h d)) (l (ix4 b h i 0)) := by
  pointwise [refQuot]

/-- The weights of the reference are the weights of the query row. -/
theorem refWeights_eq (q : FVec Ideal S2x256x64x64 .f32) (k : FVec Ideal S2x512x64x64 .f32)
    (b : Fin 2) (h : Fin 64) (i : Fin 256) (j : Fin 512) :
    refWeights (refScores q k) (refTop (refMax (refScores q k))) (ix4 b h i j)
      = weight (fun d => q (ix4 b i h d)) (fun j d => k (ix4 b j h d)) j := by
  rw [refWeights_apply, refTop_apply, refMax_apply]
  simp only [refScores_apply]
  rfl

/-- Every head's attention is the attention of its query row. -/
theorem refHeads_apply (q : FVec Ideal S2x256x64x64 .f32) (k v : FVec Ideal S2x512x64x64 .f32)
    (b : Fin 2) (i : Fin 256) (h : Fin 64) (d : Fin 64) :
    refHeads q k v (ix4 b i h d)
      = headOut (fun d => q (ix4 b i h d)) (fun j d => k (ix4 b j h d)) (fun j d => v (ix4 b j h d)) d := by
  unfold refHeads headOut
  rw [refQuot_apply, refNumer_apply, refDenom_apply]
  simp only [refWeights_eq]

/-- The queries: column `64 h + d` of the product is head `h`, dimension `d`. -/
theorem refQ_apply (x : FVec Ideal S2x256x768 .f32) (wq : FVec Ideal S768x4096 .f32)
    (b : Fin 2) (i : Fin 256) (h : Fin 64) (d : Fin 64) :
    refQ x wq (ix4 b i h d) = ∑ e : Fin 768, x (ix3 b i e) * wq (ix2 e ⟨h.val * 64 + d.val, by omega⟩) := by
  pointwise [refQ]

/-- The output projection contracts heads and dimensions together: column `n` is head `n / 64`, dimension `n % 64`. -/
theorem refOut_apply (o : FVec Ideal S2x256x64x64 .f32) (wo : FVec Ideal S4096x768 .f32)
    (b : Fin 2) (i : Fin 256) (n : Fin 768) :
    refOut o wo (ix3 b i n) = ∑ k : Fin 4096, o (ix4 b i ⟨k.val / 64, by omega⟩ ⟨k.val % 64, by omega⟩) * wo (ix2 k n) := by
  pointwise [refOut]

end Cert.RingAttn

end
-- ==== Proof.Equation.lean ====
/-
  The kernel's result and the reference's are one array, in the extended reals.

  The reference contracts 4096 columns with the output weights: 64 heads of 64 dimensions. Device `c` contracts the 512 of them that
  belong to its eight heads, heads `8 c …`, and the ring adds the eight devices' products.
-/
module

public import proofs.«01_k».proof.Proof.Tile
public import proofs.«01_k».proof.Proof.Shards
public import proofs.«01_k».proof.Proof.Total
public import proofs.«01_k».proof.Proof.Reference

@[expose] public section

noncomputable section

namespace Cert.RingAttn

open Idealize.ShloMosaic
open Cert.KernelIdeal (nD S2x256x768 S2x512x64x64 S512x768)

/-- Head `h` of the device's eight is head `8 c + h` of the whole. -/
theorem kvSlice_apply (c : Dev nD) (k : FVec Ideal S2x512x64x64 .f32) (b : Fin 2) (j : Fin 512) (h : Fin 8) (d : Fin 64) :
    kvSlice c k (ix4 b j h d) = k (ix4 b j ⟨8 * c.val + h.val, by have hc : c.val < 8 := c.isLt; omega⟩ d) := by
  rw [ix4_eq_valueIdx b j ⟨8 * c.val + h.val, _⟩ d]; rfl

variable (x : FVec Ideal S2x256x768 .f32) (wq : FVec Ideal ⟨2, ![768, 4096]⟩ .f32) (k v : FVec Ideal S2x512x64x64 .f32)
  (wo : FVec Ideal ⟨2, ![4096, 768]⟩ .f32)

/-- Device `c`'s partial product, from the whole arrays. -/
def shardPart (c : Dev nD) : FVec Ideal S512x768 .f32 :=
  partV (attnV x (Layout.block ⟨2, ![768, 512]⟩ ⟨2, ![768, 4096]⟩ 1 8 c wq) (kvSlice c k) (kvSlice c v))
    (Layout.block ⟨2, ![512, 768]⟩ ⟨2, ![4096, 768]⟩ 0 8 c wo)

/-- The device's attention is its 512 columns of the reference's. -/
theorem attn_eq (c : Dev nD) (b : Fin 2) (i : Fin 256) (r : Fin 512) (hr : r.val = 256 * b.val + i.val) (e : Fin 512) :
    attnV x (Layout.block ⟨2, ![768, 512]⟩ ⟨2, ![768, 4096]⟩ 1 8 c wq) (kvSlice c k) (kvSlice c v) (ix2 r e)
      = refHeads (refQ x wq) k v (ix4 b i ⟨(c.val * 512 + e.val) / 64, by have hc : c.val < 8 := c.isLt; omega⟩
          ⟨(c.val * 512 + e.val) % 64, by omega⟩) := by
  have hc : c.val < 8 := c.isLt
  have hh : ∀ h1, (⟨8 * c.val + e.val / 64, h1⟩ : Fin 64) = ⟨(c.val * 512 + e.val) / 64, by omega⟩ :=
    fun _ => Fin.ext (by show 8 * c.val + e.val / 64 = (c.val * 512 + e.val) / 64; omega)
  have hd : ∀ h1, (⟨e.val % 64, h1⟩ : Fin 64) = ⟨(c.val * 512 + e.val) % 64, by omega⟩ :=
    fun _ => Fin.ext (by show e.val % 64 = (c.val * 512 + e.val) % 64; omega)
  have hq : ∀ (d : Fin 64) h1, (⟨c.val * 512 + (64 * (e.val / 64) + d.val), h1⟩ : Fin 4096)
      = ⟨(c.val * 512 + e.val) / 64 * 64 + d.val, by omega⟩ :=
    fun d _ => Fin.ext (by show c.val * 512 + (64 * (e.val / 64) + d.val) = (c.val * 512 + e.val) / 64 * 64 + d.val; omega)
  rw [attnV_apply x _ _ _ b i r hr e, refHeads_apply]
  simp only [kvSlice_apply, refQ_apply, wq_shard]
  simp only [hh, hd, hq]

/-- The partial product, with the reference's attention. -/
theorem shardPart_apply (c : Dev nD) (b : Fin 2) (i : Fin 256) (r : Fin 512) (hr : r.val = 256 * b.val + i.val) (n : Fin 768) :
    shardPart x wq k v wo c (ix2 r n)
      = ∑ e : Fin 512, refHeads (refQ x wq) k v (ix4 b i ⟨(c.val * 512 + e.val) / 64, by have hc : c.val < 8 := c.isLt; omega⟩
          ⟨(c.val * 512 + e.val) % 64, by omega⟩) * wo (ix2 ⟨c.val * 512 + e.val, by have hc : c.val < 8 := c.isLt; omega⟩ n) := by
  unfold shardPart partV
  rw [pay42_apply]
  refine Finset.sum_congr rfl fun e _ => ?_
  rw [attn_eq x wq k v c b i r hr e, wo_shard]

/-- What every device writes is the reference's result. -/
theorem out_eq (c : Dev nD) :
    outV (accV (shardPart x wq k v wo) c 7) = refOut (refHeads (refQ x wq) k v) wo := by
  funext j
  obtain ⟨b, i, n, rfl⟩ : ∃ (b : Fin 2) (i : Fin 256) (n : Fin 768), j = ix3 b i n := ⟨_, _, _, eq_ix3 (n0 := 2) (n1 := 256) (n2 := 768) j⟩
  have e : outV (accV (shardPart x wq k v wo) c 7) (ix3 b i n)
      = accV (shardPart x wq k v wo) c 7 (ix2 ⟨256 * b.val + i.val, by omega⟩ n) := by
    rw [ix2_eq_valueIdx]; rfl
  rw [e, accV_total, refOut_apply, Fin.sum_univ_tiles 8 512 rfl]
  exact Finset.sum_congr rfl fun d _ => shardPart_apply x wq k v wo d b i _ rfl n

end Cert.RingAttn

end
-- ==== Proof.SameText.lean ====
/-
  The kernel as printed and its idealization have one text: no operation was replaced. So their tables of bodies are equal, and what
  is proved of one program's run is proved of the other's.
-/
module

public import proofs.«01_k».proof.Proof.Gen.Kernel
public import proofs.«01_k».proof.Proof.Gen.KernelIdeal

@[expose] public section

noncomputable section

namespace Cert.RingAttn

open Idealize.ShloMosaic

variable {F : FTy → Type} [FloatOps F]

/-- The tables of kernel bodies: the one body is the same. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  obtain rfl : l = 0 := Subsingleton.elim _ _
  rfl

/-- The whole tables. -/
theorem defs_eq : Cert.Kernel.defs (F := F) = Cert.KernelIdeal.defs (F := F) :=
  congrArg (Pipeline.defs (Cert.KernelIdeal.pcfgs (F := F))) bodies_eq

end Cert.RingAttn

end
-- ==== Proof.lean ====
/-
  The proof of `Cert.Claim`: the three frames, the idealization and the value.

  The kernel's run is proved once, for any float values (`run_main`, Proof/Launch.lean). The frame of the kernel as printed is that
  run at the bit-exact values, the frame of its idealization the run at the extended reals, and the value claim reads the result the
  same run leaves: it is the reference's by `out_eq` (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.ShloMosaic.TcCoe Idealize.SL.Sem Cert.RingAttn

/-! ## The frames -/

/-- The run with the values dropped, for any float values. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (run_main m ρ)

/-- The kernel as printed: the run at the bit-exact values. -/
theorem frame_kernel : Cert.quiescent_Kernel := by
  intro m ρ _
  rw [defs_eq]
  exact frame_run (F := Bits) m ρ

/-- Its idealization: the run at the extended reals. -/
theorem frame_kernelIdeal : Cert.quiescent_KernelIdeal := fun m ρ _ => frame_run (F := Ideal) m ρ

/-- The reference: its run; it has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The value -/

/-- A device that holds its part of the whole arrays computes the partial product of that part. -/
theorem partOf_eq (m : (ℓ : Loc Cert.KernelIdeal.nD Cert.KernelIdeal.τ Cert.KernelIdeal.sig) → Buf (Elt Ideal) ℓ) (c : Dev Cert.KernelIdeal.nD)
    (x : FVec Ideal Cert.KernelIdeal.S2x256x768 .f32) (wq : FVec Ideal ⟨2, ![768, 4096]⟩ .f32)
    (k v : FVec Ideal Cert.KernelIdeal.S2x512x64x64 .f32) (wo : FVec Ideal ⟨2, ![4096, 768]⟩ .f32)
    (hx : m ((c.tc : Thread Cert.KernelIdeal.nD Cert.KernelIdeal.τ).loc Cert.KernelIdeal.main_arg0) = x)
    (hwq : m ((c.tc : Thread Cert.KernelIdeal.nD Cert.KernelIdeal.τ).loc Cert.KernelIdeal.main_arg1)
      = Layout.block ⟨2, ![768, 512]⟩ ⟨2, ![768, 4096]⟩ 1 8 c wq)
    (hk : m ((c.tc : Thread Cert.KernelIdeal.nD Cert.KernelIdeal.τ).loc Cert.KernelIdeal.main_arg2) = k)
    (hv : m ((c.tc : Thread Cert.KernelIdeal.nD Cert.KernelIdeal.τ).loc Cert.KernelIdeal.main_arg3) = v)
    (hwo : m ((c.tc : Thread Cert.KernelIdeal.nD Cert.KernelIdeal.τ).loc Cert.KernelIdeal.main_arg4)
      = Layout.block ⟨2, ![512, 768]⟩ ⟨2, ![4096, 768]⟩ 0 8 c wo) :
    partOf m c = shardPart x wq k v wo c := by
  unfold partOf shardPart
  rw [(xIn_eq m c).trans hx, (wqIn_eq m c).trans hwq, (woIn_eq m c).trans hwo]
  exact congrArg (fun a => partV a _) (congr (congrArg (attnV x _) (congrArg (kvSlice c) hk)) (congrArg (kvSlice c) hv))

/-- Every device ends with the reference's result. -/
theorem algebraic : Cert.algebraic_KernelIdeal_ReferenceIdeal := by
  intro m ρ m' ρ' _ hagree
  have hpart : partOf m = _ := funext fun c =>
    partOf_eq m c _ _ _ _ _ (hagree c).1 (hagree c).2.1 (hagree c).2.2.1 (hagree c).2.2.2.1 (hagree c).2.2.2.2
  have hout : ∀ c, outOf m c = Cert.ReferenceIdeal.Value.res_out0 m' 0 := fun c =>
    ((congrArg (fun P => outV (accV P c 7)) hpart).trans (out_eq _ _ _ _ _ c)).trans (res_eq m' 0).symm
  exact ⟨Cert.ReferenceIdeal.Value.res_out0 m' 0,
    (θ_run Cert.KernelIdeal.defs _ _).mono (fun _ h c => ⟨(h.1 c).2.trans (hout c), (h.1 c).1⟩) (run_main (F := Ideal) m ρ),
    (θ_run Cert.ReferenceIdeal.defs _ _).mono (fun _ h => h 0) (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
